-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_weights [hPre_weights : Cert.Pre_weights.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_weights.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_weights [hPre_weights : Cert.Pre_weights.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_weights.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_weights [hKernel2Ideal : Cert.Kernel2Ideal.Facts] [hPre_weights : Cert.Pre_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_weights m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_weights [hReference2Ideal : Cert.Reference2Ideal.Facts] [hPre_weights : Cert.Pre_weights.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_weights m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v21_2)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_2) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v289) = v0 c
          ∧ r.2.mem ((c.tc : Thread Cert.ReferenceIdeal.nD Cert.ReferenceIdeal.τ).loc Cert.ReferenceIdeal.main_v207) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def preserves_Kernel2_Kernel2Ideal : Prop :=
  IdealRules.named_const.Statement Cert.Kernel2Ideal.κ "third" .f32 0x3EAAAAAB#32 ((1 / 3 : ℝ) : EReal)

def algebraic_Kernel2Ideal_Reference2Ideal_pre_weights [hKernel2Ideal : Cert.Kernel2Ideal.Facts] [hReference2Ideal : Cert.Reference2Ideal.Facts] [hPre_weights : Cert.Pre_weights.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_weights m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v31) = v3 c
          ∧ r.2.mem ((c.tc : Thread Cert.Reference3Ideal.nD Cert.Reference3Ideal.τ).loc Cert.Reference3Ideal.main_v32) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_weights : Cert.Pre_weights.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_weights (hKernel2Ideal := hKernel2Ideal) (hPre_weights := hPre_weights)
    ∧ quiescent_Reference2Ideal (hReference2Ideal := hReference2Ideal)
    ∧ quiescent_Reference2Ideal_pre_weights (hReference2Ideal := hReference2Ideal) (hPre_weights := hPre_weights)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_weights (hKernel2Ideal := hKernel2Ideal) (hReference2Ideal := hReference2Ideal) (hPre_weights := hPre_weights)
    ∧ preserves_Kernel3_Kernel3Ideal
    ∧ algebraic_Kernel3Ideal_Reference3Ideal (hKernel3Ideal := hKernel3Ideal) (hReference3Ideal := hReference3Ideal)
-- ==== Pre_weights.lean ====
abbrev S4096x4096 : Shape := ⟨2, ![4096, 4096]⟩
abbrev S4096x128 : Shape := ⟨2, ![4096, 128]⟩
abbrev S4096x1 : Shape := ⟨2, ![4096, 1]⟩
abbrev S128 : Shape := ⟨1, ![128]⟩
abbrev S128x128 : Shape := ⟨2, ![128, 128]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4096x4096 .bf16) (main_arg1 : FVec F S4096x128 .bf16) (main_arg2 : FVec F S4096x1 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S4096x4096 .f32 := (extf .f32 · bitsLt_bf16_f32) main_arg0
  let main_cst : FVec F S_ .f32 := constant S_ .f32 0x00000000#32
  let main_v1 : FVec F S4096x4096 .f32 := broadcastInDim S4096x4096 ![] bcast_S_S4096x4096 main_cst
  let main_v2 : IVec S4096x4096 1 := cmpf .oge main_v0 main_v1
  let main_c : IVec S_ 1 := constantI S_ 1 1#1
  let main_v3 : IVec S_ 1 := (fun x v => Host.reduce IntOp.andi x v reducesTo_S4096x4096_S_d0_1 h_S_) main_v2 main_c
  let main_cst_0 : FVec F S_ .f32 := constant S_ .f32 0x00000000#32
  let main_v4 : FVec F S4096x1 .f32 := broadcastInDim S4096x1 ![] bcast_S_S4096x1 main_cst_0
  let main_v5 : IVec S4096x1 1 := cmpf .oge main_arg2 main_v4
  let main_c_1 : IVec S_ 1 := constantI S_ 1 1#1
  let main_v6 : IVec S_ 1 := (fun x v => Host.reduce IntOp.andi x v reducesTo_S4096x1_S_d0_1 h_S_) main_v5 main_c_1
  let main_v7 : IVec S_ 1 := andi main_v3 main_v6
  let main_cst_2 : FVec F S_ .f32 := constant S_ .f32 0x7F800000#32
  let main_v8 : FVec F S4096x1 .f32 := broadcastInDim S4096x1 ![] bcast_S_S4096x1 main_cst_2
  let main_v9 : IVec S4096x1 1 := cmpf .olt main_arg2 main_v8
  let main_c_3 : IVec S_ 1 := constantI S_ 1 1#1
  let main_v10 : IVec S_ 1 := (fun x v => Host.reduce IntOp.andi x v reducesTo_S4096x1_S_d0_1 h_S_) main_v9 main_c_3
  let main_v11 : IVec S_ 1 := andi main_v7 main_v10
  main_v11
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S64x16 : Shape := ⟨2, ![64, 16]⟩
abbrev S16 : Shape := ⟨1, ![16]⟩
abbrev S16x1 : Shape := ⟨2, ![16, 1]⟩
abbrev S1x64x64 : Shape := ⟨3, ![1, 64, 64]⟩
abbrev S1 : Shape := ⟨1, ![1]⟩
abbrev S1x128 : Shape := ⟨2, ![1, 128]⟩
abbrev S1x64 : Shape := ⟨2, ![1, 64]⟩
abbrev S1x16 : Shape := ⟨2, ![1, 16]⟩
abbrev S1x1 : Shape := ⟨2, ![1, 1]⟩
abbrev S64x64 : Shape := ⟨2, ![64, 64]⟩
abbrev S1x4096 : Shape := ⟨2, ![1, 4096]⟩
abbrev S4096x1 : Shape := ⟨2, ![4096, 1]⟩
abbrev S4096x256 : Shape := ⟨2, ![4096, 256]⟩
abbrev S128x4096 : Shape := ⟨2, ![128, 4096]⟩
abbrev S128x1 : Shape := ⟨2, ![128, 1]⟩
abbrev S4096 : Shape := ⟨1, ![4096]⟩
abbrev S1x256 : Shape := ⟨2, ![1, 256]⟩
abbrev S4096x512 : Shape := ⟨2, ![4096, 512]⟩
abbrev S512x1 : Shape := ⟨2, ![512, 1]⟩
abbrev S512x128 : Shape := ⟨2, ![512, 128]⟩
abbrev S512x256 : Shape := ⟨2, ![512, 256]⟩
abbrev S4096x64 : Shape := ⟨2, ![4096, 64]⟩
abbrev S512x64 : Shape := ⟨2, ![512, 64]⟩
abbrev S1024x4096 : Shape := ⟨2, ![1024, 4096]⟩
abbrev S1024x1 : Shape := ⟨2, ![1024, 1]⟩
abbrev S1024x64 : Shape := ⟨2, ![1024, 64]⟩
abbrev S1024 : Shape := ⟨1, ![1024]⟩
abbrev S1024x16 : Shape := ⟨2, ![1024, 16]⟩
abbrev S4096x2 : Shape := ⟨2, ![4096, 2]⟩

abbrev nBuf : Space → Nat
  | .hbm => 63
  | .vmem => 113
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S64x16, .f32⟩
  | .hbm, ⟨16, _⟩ => ⟨S16, .f32⟩
  | .hbm, ⟨17, _⟩ => ⟨S16x1, .f32⟩
  | .hbm, ⟨18, _⟩ => ⟨S1x64x64, .f32⟩
  | .hbm, ⟨19, _⟩ => ⟨S1, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x64, .f32⟩
  | .hbm, ⟨24, _⟩ => ⟨S1x128, .f32⟩
  | .hbm, ⟨25, _⟩ => ⟨S1x128, .f32⟩
  | .hbm, ⟨26, _⟩ => ⟨S1x16, .f32⟩
  | .hbm, ⟨27, _⟩ => ⟨S1x16, .f32⟩
  | .hbm, ⟨28, _⟩ => ⟨S1x1, .f32⟩
  | .hbm, ⟨29, _⟩ => ⟨S64x64, .f32⟩
  | .hbm, ⟨30, _⟩ => ⟨S1x4096, .f32⟩
  | .hbm, ⟨31, _⟩ => ⟨S1x4096, .f32⟩
  | .hbm, ⟨32, _⟩ => ⟨S1x4096, .f32⟩
  | .hbm, ⟨33, _⟩ => ⟨S4096x1, .f32⟩
  | .hbm, ⟨34, _⟩ => ⟨S4096x4096, .bf16⟩
  | .hbm, ⟨35, _⟩ => ⟨S4096x4096, .bf16⟩
  | .hbm, ⟨36, _⟩ => ⟨S4096x4096, .bf16⟩
  | .hbm, ⟨37, _⟩ => ⟨S4096x128, .bf16⟩
  | .hbm, ⟨38, _⟩ => ⟨S4096x256, .bf16⟩
  | .hbm, ⟨39, _⟩ => ⟨S4096x128, .bf16⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S1x256, .f32⟩
  | .hbm, ⟨44, _⟩ => ⟨S4096x128, .f32⟩
  | .hbm, ⟨45, _⟩ => ⟨S4096x256, .f32⟩
  | .hbm, ⟨46, _⟩ => ⟨S4096x128, .f32⟩
  | .hbm, ⟨47, _⟩ => ⟨S4096x64, .bf16⟩
  | .hbm, ⟨48, _⟩ => ⟨S4096x128, .bf16⟩
  | .hbm, ⟨49, _⟩ => ⟨S4096x64, .bf16⟩
  | .hbm, ⟨50, _⟩ => ⟨S1x128, .f32⟩
  | .hbm, ⟨51, _⟩ => ⟨S4096x64, .f32⟩
  | .hbm, ⟨52, _⟩ => ⟨S4096x128, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S4096x1, .f32⟩
  | .hbm, ⟨57, _⟩ => ⟨S4096x1, .f32⟩
  | .hbm, ⟨58, _⟩ => ⟨S4096x64, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x2, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S4096x128, .f32⟩
  | .local _ .vmem, ⟨7, _⟩ => ⟨S4096x128, .f32⟩
  | .local _ .vmem, ⟨8, _⟩ => ⟨S128x128, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S128x1, .f32⟩
  | .local _ .vmem, ⟨13, _⟩ => ⟨S128x1, .f32⟩
  | .local _ .vmem, ⟨14, _⟩ => ⟨S128x4096, .bf16⟩
  | .local _ .vmem, ⟨15, _⟩ => ⟨S128x4096, .bf16⟩
  | .local _ .vmem, ⟨16, _⟩ => ⟨S128x4096, .bf16⟩
  | .local _ .vmem, ⟨17, _⟩ => ⟨S128x4096, .bf16⟩
  | .local _ .vmem, ⟨18, _⟩ => ⟨S128x4096, .bf16⟩
  | .local _ .vmem, ⟨19, _⟩ => ⟨S128x4096, .bf16⟩
  | .local _ .vmem, ⟨20, _⟩ => ⟨S4096x128, .bf16⟩
  | .local _ .vmem, ⟨21, _⟩ => ⟨S4096x256, .bf16⟩
  | .local _ .vmem, ⟨22, _⟩ => ⟨S4096x128, .bf16⟩
  | .local _ .vmem, ⟨23, _⟩ => ⟨S4096x512, .bf16⟩
  | .local _ .vmem, ⟨24, _⟩ => ⟨S4096x512, .bf16⟩
  | .local _ .vmem, ⟨25, _⟩ => ⟨S4096x512, .bf16⟩
  | .local _ .vmem, ⟨26, _⟩ => ⟨S4096x512, .bf16⟩
  | .local _ .vmem, ⟨27, _⟩ => ⟨S4096x512, .bf16⟩
  | .local _ .vmem, ⟨28, _⟩ => ⟨S4096x512, .bf16⟩
  | .local _ .vmem, ⟨29, _⟩ => ⟨S4096x128, .bf16⟩
  | .local _ .vmem, ⟨30, _⟩ => ⟨S4096x256, .bf16⟩
  | .local _ .vmem, ⟨31, _⟩ => ⟨S4096x128, .bf16⟩
  | .local _ .vmem, ⟨32, _⟩ => ⟨S512x1, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | .local _ .vmem, ⟨36, _⟩ => ⟨S512x1, .f32⟩
  | .local _ .vmem, ⟨37, _⟩ => ⟨S512x1, .f32⟩
  | .local _ .vmem, ⟨38, _⟩ => ⟨S1x128, .f32⟩
  | .local _ .vmem, ⟨39, _⟩ => ⟨S1x256, .f32⟩
  | .local _ .vmem, ⟨40, _⟩ => ⟨S1x128, .f32⟩
  | .local _ .vmem, ⟨41, _⟩ => ⟨S512x128, .f32⟩
  | .local _ .vmem, ⟨42, _⟩ => ⟨S512x128, .f32⟩
  | .local _ .vmem, ⟨43, _⟩ => ⟨S512x256, .f32⟩
  | .local _ .vmem, ⟨44, _⟩ => ⟨S512x256, .f32⟩
  | .local _ .vmem, ⟨45, _⟩ => ⟨S512x128, .f32⟩
  | .local _ .vmem, ⟨46, _⟩ => ⟨S512x128, .f32⟩
  | .local _ .vmem, ⟨47, _⟩ => ⟨S4096x128, .f32⟩
  | .local _ .vmem, ⟨48, _⟩ => ⟨S4096x256, .f32⟩
  | .local _ .vmem, ⟨49, _⟩ => ⟨S4096x128, .f32⟩
  | .local _ .vmem, ⟨50, _⟩ => ⟨S1x128, .f32⟩
  | .local _ .vmem, ⟨51, _⟩ => ⟨S1x128, .f32⟩
  | .local _ .vmem, ⟨52, _⟩ => ⟨S128x64, .f32⟩
  | .local _ .vmem, ⟨53, _⟩ => ⟨S4096x1, .f32⟩
  | .local _ .vmem, ⟨54, _⟩ => ⟨S4096x1, .f32⟩
  | .local _ .vmem, ⟨55, _⟩ => ⟨S4096x1, .f32⟩
  | .local _ .vmem, ⟨56, _⟩ => ⟨S4096x64, .bf16⟩
  | .local _ .vmem, ⟨57, _⟩ => ⟨S4096x128, .bf16⟩
  | .local _ .vmem, ⟨58, _⟩ => ⟨S4096x64, .bf16⟩
  | .local _ .vmem, ⟨59, _⟩ => ⟨S4096x512, .bf16⟩
  | .local _ .vmem, ⟨60, _⟩ => ⟨S4096x512, .bf16⟩
  | .local _ .vmem, ⟨61, _⟩ => ⟨S4096x512, .bf16⟩
  | .local _ .vmem, ⟨62, _⟩ => ⟨S4096x512, .bf16⟩
  | .local _ .vmem, ⟨63, _⟩ => ⟨S4096x512, .bf16⟩
  | .local _ .vmem, ⟨64, _⟩ => ⟨S4096x512, .bf16⟩
  | .local _ .vmem, ⟨65, _⟩ => ⟨S4096x64, .bf16⟩
  | .local _ .vmem, ⟨66, _⟩ => ⟨S4096x128, .bf16⟩
  | .local _ .vmem, ⟨67, _⟩ => ⟨S4096x64, .bf16⟩
  | .local _ .vmem, ⟨68, _⟩ => ⟨S512x1, .f32⟩
  | .local _ .vmem, ⟨69, _⟩ => ⟨S512x1, .f32⟩
  | .local _ .vmem, ⟨70, _⟩ => ⟨S512x1, .f32⟩
  | .local _ .vmem, ⟨71, _⟩ => ⟨S512x1, .f32⟩
  | .local _ .vmem, ⟨72, _⟩ => ⟨S512x1, .f32⟩
  | .local _ .vmem, ⟨73, _⟩ => ⟨S512x1, .f32⟩
  | .local _ .vmem, ⟨74, _⟩ => ⟨S1x64, .f32⟩
  | .local _ .vmem, ⟨75, _⟩ => ⟨S1x128, .f32⟩
  | .local _ .vmem, ⟨76, _⟩ => ⟨S1x64, .f32⟩
  | .local _ .vmem, ⟨77, _⟩ => ⟨S512x64, .f32⟩
  | .local _ .vmem, ⟨78, _⟩ => ⟨S512x64, .f32⟩
  | .local _ .vmem, ⟨79, _⟩ => ⟨S512x128, .f32⟩
  | .local _ .vmem, ⟨80, _⟩ => ⟨S512x128, .f32⟩
  | .local _ .vmem, ⟨81, _⟩ => ⟨S512x64, .f32⟩
  | .local _ .vmem, ⟨82, _⟩ => ⟨S512x64, .f32⟩
  | .local _ .vmem, ⟨83, _⟩ => ⟨S1024x4096, .bf16⟩
  | .local _ .vmem, ⟨84, _⟩ => ⟨S1024x4096, .bf16⟩
  | .local _ .vmem, ⟨85, _⟩ => ⟨S4096x64, .f32⟩
  | .local _ .vmem, ⟨86, _⟩ => ⟨S1024x1, .f32⟩
  | .local _ .vmem, ⟨87, _⟩ => ⟨S1024x1, .f32⟩
  | .local _ .vmem, ⟨88, _⟩ => ⟨S1024x64, .f32⟩
  | .local _ .vmem, ⟨89, _⟩ => ⟨S1024x64, .f32⟩
  | .local _ .vmem, ⟨90, _⟩ => ⟨S1024x64, .f32⟩
  | .local _ .vmem, ⟨91, _⟩ => ⟨S1024x64, .f32⟩
  | .local _ .vmem, ⟨92, _⟩ => ⟨S1024x64, .f32⟩
  | .local _ .vmem, ⟨93, _⟩ => ⟨S1024x64, .f32⟩
  | .local _ .vmem, ⟨94, _⟩ => ⟨S1024x64, .f32⟩
  | .local _ .vmem, ⟨95, _⟩ => ⟨S1024x64, .f32⟩
  | .local _ .vmem, ⟨96, _⟩ => ⟨S64x64, .f32⟩
  | .local _ .vmem, ⟨97, _⟩ => ⟨S1x1, .f32⟩
  | .local _ .vmem, ⟨98, _⟩ => ⟨S64x16, .f32⟩
  | .local _ .vmem, ⟨99, _⟩ => ⟨S1x16, .f32⟩
  | .local _ .vmem, ⟨100, _⟩ => ⟨S1x16, .f32⟩
  | .local _ .vmem, ⟨101, _⟩ => ⟨S1024x1, .f32⟩
  | .local _ .vmem, ⟨102, _⟩ => ⟨S1024x1, .f32⟩
  | .local _ .vmem, ⟨103, _⟩ => ⟨S1024x1, .f32⟩
  | .local _ .vmem, ⟨104, _⟩ => ⟨S1024x1, .f32⟩
  | .local _ .vmem, ⟨105, _⟩ => ⟨S1024x64, .f32⟩
  | .local _ .vmem, ⟨106, _⟩ => ⟨S1024x64, .f32⟩
  | .local _ .vmem, ⟨107, _⟩ => ⟨S1024x1, .f32⟩
  | .local _ .vmem, ⟨108, _⟩ => ⟨S1024x1, .f32⟩
  | .local _ .vmem, ⟨109, _⟩ => ⟨S1024x1, .f32⟩
  | .local _ .vmem, ⟨110, _⟩ => ⟨S1024x1, .f32⟩
  | .local _ .vmem, ⟨111, _⟩ => ⟨S1024x1, .f32⟩
  | .local _ .vmem, ⟨112, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | _, _ => false

abbrev semScoped : Fin 0 → Bool
  | ⟨_, h⟩ => absurd h (Nat.not_lt_zero _)

abbrev dmaSemScoped : Fin 113 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | _ => false

abbrev sig : RefSig :=
  ofTc nBuf bufTy 0 113 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10_0 : Ref sig .tc := ⟨.hbm, 30, rfl⟩
abbrev main_v10_1 : Ref sig .tc := ⟨.hbm, 31, rfl⟩
abbrev main_v10_2 : Ref sig .tc := ⟨.hbm, 32, rfl⟩
abbrev main_v10_3 : Ref sig .tc := ⟨.hbm, 33, rfl⟩
abbrev main_v10_4 : Ref sig .tc := ⟨.hbm, 34, rfl⟩
abbrev main_v10_5 : Ref sig .tc := ⟨.hbm, 35, rfl⟩
abbrev main_v10_6 : Ref sig .tc := ⟨.hbm, 36, rfl⟩
abbrev main_v10_7 : Ref sig .tc := ⟨.hbm, 37, rfl⟩
abbrev main_v10_8 : Ref sig .tc := ⟨.hbm, 38, rfl⟩
abbrev main_v10_9 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15_0 : Ref sig .tc := ⟨.hbm, 44, rfl⟩
abbrev main_v15_1 : Ref sig .tc := ⟨.hbm, 45, rfl⟩
abbrev main_v15_2 : Ref sig .tc := ⟨.hbm, 46, rfl⟩
abbrev main_v16_0 : Ref sig .tc := ⟨.hbm, 47, rfl⟩
abbrev main_v16_1 : Ref sig .tc := ⟨.hbm, 48, rfl⟩
abbrev main_v16_2 : Ref sig .tc := ⟨.hbm, 49, rfl⟩
abbrev main_v17 : Ref sig .tc := ⟨.hbm, 50, rfl⟩
abbrev main_v18_0 : Ref sig .tc := ⟨.hbm, 51, rfl⟩
abbrev main_v18_1 : Ref sig .tc := ⟨.hbm, 52, rfl⟩
abbrev main_v18_2 : Ref sig .tc := ⟨.hbm, 53, rfl⟩
abbrev main_v19 : Ref sig .tc := ⟨.hbm, 54, rfl⟩
abbrev main_v20 : Ref sig .tc := ⟨.hbm, 55, rfl⟩
abbrev main_v21_0 : Ref sig .tc := ⟨.hbm, 56, rfl⟩
abbrev main_v21_1 : Ref sig .tc := ⟨.hbm, 57, rfl⟩
abbrev main_v21_2 : Ref sig .tc := ⟨.hbm, 58, rfl⟩
abbrev main_v21_3 : Ref sig .tc := ⟨.hbm, 59, rfl⟩
abbrev main_v21_4 : Ref sig .tc := ⟨.hbm, 60, rfl⟩
abbrev main_v21_5 : Ref sig .tc := ⟨.hbm, 61, rfl⟩
abbrev main_v22 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_stg9_0 : Ref sig .tc := ⟨.vmem, 38, rfl⟩
abbrev cc1_stg10_0 : Ref sig .tc := ⟨.vmem, 39, rfl⟩
abbrev cc1_stg11_0 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_stg14_0 : Ref sig .tc := ⟨.vmem, 45, rfl⟩
abbrev cc1_stg14_1 : Ref sig .tc := ⟨.vmem, 46, rfl⟩
abbrev cc2_stg0_0 : Ref sig .tc := ⟨.vmem, 47, rfl⟩
abbrev cc2_stg1_0 : Ref sig .tc := ⟨.vmem, 48, rfl⟩
abbrev cc2_stg2_0 : Ref sig .tc := ⟨.vmem, 49, rfl⟩
abbrev cc2_stg3_0 : Ref sig .tc := ⟨.vmem, 50, rfl⟩
abbrev cc2_stg4_0 : Ref sig .tc := ⟨.vmem, 51, rfl⟩
abbrev cc2_stg5_0 : Ref sig .tc := ⟨.vmem, 52, rfl⟩
abbrev cc2_stg6_0 : Ref sig .tc := ⟨.vmem, 53, rfl⟩
abbrev cc2_stg7_0 : Ref sig .tc := ⟨.vmem, 54, rfl⟩
abbrev cc2_stg8_0 : Ref sig .tc := ⟨.vmem, 55, rfl⟩
abbrev cc2_stg9_0 : Ref sig .tc := ⟨.vmem, 56, rfl⟩
abbrev cc2_stg10_0 : Ref sig .tc := ⟨.vmem, 57, rfl⟩
abbrev cc2_stg11_0 : Ref sig .tc := ⟨.vmem, 58, rfl⟩
abbrev cc3_stg0_0 : Ref sig .tc := ⟨.vmem, 59, rfl⟩
abbrev cc3_stg0_1 : Ref sig .tc := ⟨.vmem, 60, rfl⟩
abbrev cc3_stg1_0 : Ref sig .tc := ⟨.vmem, 61, rfl⟩
abbrev cc3_stg1_1 : Ref sig .tc := ⟨.vmem, 62, rfl⟩
abbrev cc3_stg2_0 : Ref sig .tc := ⟨.vmem, 63, rfl⟩
abbrev cc3_stg2_1 : Ref sig .tc := ⟨.vmem, 64, rfl⟩
abbrev cc3_stg3_0 : Ref sig .tc := ⟨.vmem, 65, rfl⟩
abbrev cc3_stg4_0 : Ref sig .tc := ⟨.vmem, 66, rfl⟩
abbrev cc3_stg5_0 : Ref sig .tc := ⟨.vmem, 67, rfl⟩
abbrev cc3_stg6_0 : Ref sig .tc := ⟨.vmem, 68, rfl⟩
abbrev cc3_stg6_1 : Ref sig .tc := ⟨.vmem, 69, rfl⟩
abbrev cc3_stg7_0 : Ref sig .tc := ⟨.vmem, 70, rfl⟩
abbrev cc3_stg7_1 : Ref sig .tc := ⟨.vmem, 71, rfl⟩
abbrev cc3_stg8_0 : Ref sig .tc := ⟨.vmem, 72, rfl⟩
abbrev cc3_stg8_1 : Ref sig .tc := ⟨.vmem, 73, rfl⟩
abbrev cc3_stg9_0 : Ref sig .tc := ⟨.vmem, 74, rfl⟩
abbrev cc3_stg10_0 : Ref sig .tc := ⟨.vmem, 75, rfl⟩
abbrev cc3_stg11_0 : Ref sig .tc := ⟨.vmem, 76, rfl⟩
abbrev cc3_stg12_0 : Ref sig .tc := ⟨.vmem, 77, rfl⟩
abbrev cc3_stg12_1 : Ref sig .tc := ⟨.vmem, 78, rfl⟩
abbrev cc3_stg13_0 : Ref sig .tc := ⟨.vmem, 79, rfl⟩
abbrev cc3_stg13_1 : Ref sig .tc := ⟨.vmem, 80, rfl⟩
abbrev cc3_stg14_0 : Ref sig .tc := ⟨.vmem, 81, rfl⟩
abbrev cc3_stg14_1 : Ref sig .tc := ⟨.vmem, 82, rfl⟩
abbrev cc4_stg0_0 : Ref sig .tc := ⟨.vmem, 83, rfl⟩
abbrev cc4_stg0_1 : Ref sig .tc := ⟨.vmem, 84, rfl⟩
abbrev cc4_stg1_0 : Ref sig .tc := ⟨.vmem, 85, rfl⟩
abbrev cc4_stg2_0 : Ref sig .tc := ⟨.vmem, 86, rfl⟩
abbrev cc4_stg2_1 : Ref sig .tc := ⟨.vmem, 87, rfl⟩
abbrev cc4_stg3_0 : Ref sig .tc := ⟨.vmem, 88, rfl⟩
abbrev cc4_stg3_1 : Ref sig .tc := ⟨.vmem, 89, rfl⟩
abbrev cc4_stg4_0 : Ref sig .tc := ⟨.vmem, 90, rfl⟩
abbrev cc4_stg4_1 : Ref sig .tc := ⟨.vmem, 91, rfl⟩
abbrev cc4_stg5_0 : Ref sig .tc := ⟨.vmem, 92, rfl⟩
abbrev cc4_stg5_1 : Ref sig .tc := ⟨.vmem, 93, rfl⟩
abbrev cc4_stg6_0 : Ref sig .tc := ⟨.vmem, 94, rfl⟩
abbrev cc4_stg6_1 : Ref sig .tc := ⟨.vmem, 95, rfl⟩
abbrev cc4_stg7_0 : Ref sig .tc := ⟨.vmem, 96, rfl⟩
abbrev cc4_stg8_0 : Ref sig .tc := ⟨.vmem, 97, rfl⟩
abbrev cc4_stg9_0 : Ref sig .tc := ⟨.vmem, 98, rfl⟩
abbrev cc4_stg10_0 : Ref sig .tc := ⟨.vmem, 99, rfl⟩
abbrev cc4_stg11_0 : Ref sig .tc := ⟨.vmem, 100, rfl⟩
abbrev cc4_stg12_0 : Ref sig .tc := ⟨.vmem, 101, rfl⟩
abbrev cc4_stg12_1 : Ref sig .tc := ⟨.vmem, 102, rfl⟩
abbrev cc4_stg13_0 : Ref sig .tc := ⟨.vmem, 103, rfl⟩
abbrev cc4_stg13_1 : Ref sig .tc := ⟨.vmem, 104, rfl⟩
abbrev cc4_stg14_0 : Ref sig .tc := ⟨.vmem, 105, rfl⟩
abbrev cc4_stg14_1 : Ref sig .tc := ⟨.vmem, 106, rfl⟩
abbrev cc4_stg15_0 : Ref sig .tc := ⟨.vmem, 107, rfl⟩
abbrev cc4_stg15_1 : Ref sig .tc := ⟨.vmem, 108, rfl⟩
abbrev cc4_stg16_0 : Ref sig .tc := ⟨.vmem, 109, rfl⟩
abbrev cc4_stg16_1 : Ref sig .tc := ⟨.vmem, 110, rfl⟩
abbrev cc4_stg17_0 : Ref sig .tc := ⟨.vmem, 111, rfl⟩
abbrev cc4_stg17_1 : Ref sig .tc := ⟨.vmem, 112, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem4_0 : DmaSem sig := 30
abbrev cc1_sem5_0 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem10_0 : DmaSem sig := 39
abbrev cc1_sem11_0 : DmaSem sig := 40
abbrev cc1_sem12_0 : DmaSem sig := 41
abbrev cc1_sem12_1 : DmaSem sig := 42
abbrev cc1_sem13_0 : DmaSem sig := 43
abbrev cc1_sem13_1 : DmaSem sig := 44
abbrev cc1_sem14_0 : DmaSem sig := 45
abbrev cc1_sem14_1 : DmaSem sig := 46
abbrev cc2_sem0_0 : DmaSem sig := 47
abbrev cc2_sem1_0 : DmaSem sig := 48
abbrev cc2_sem2_0 : DmaSem sig := 49
abbrev cc2_sem3_0 : DmaSem sig := 50
abbrev cc2_sem4_0 : DmaSem sig := 51
abbrev cc2_sem5_0 : DmaSem sig := 52
abbrev cc2_sem6_0 : DmaSem sig := 53
abbrev cc2_sem7_0 : DmaSem sig := 54
abbrev cc2_sem8_0 : DmaSem sig := 55
abbrev cc2_sem9_0 : DmaSem sig := 56
abbrev cc2_sem10_0 : DmaSem sig := 57
abbrev cc2_sem11_0 : DmaSem sig := 58
abbrev cc3_sem0_0 : DmaSem sig := 59
abbrev cc3_sem0_1 : DmaSem sig := 60
abbrev cc3_sem1_0 : DmaSem sig := 61
abbrev cc3_sem1_1 : DmaSem sig := 62
abbrev cc3_sem2_0 : DmaSem sig := 63
abbrev cc3_sem2_1 : DmaSem sig := 64
abbrev cc3_sem3_0 : DmaSem sig := 65
abbrev cc3_sem4_0 : DmaSem sig := 66
abbrev cc3_sem5_0 : DmaSem sig := 67
abbrev cc3_sem6_0 : DmaSem sig := 68
abbrev cc3_sem6_1 : DmaSem sig := 69
abbrev cc3_sem7_0 : DmaSem sig := 70
abbrev cc3_sem7_1 : DmaSem sig := 71
abbrev cc3_sem8_0 : DmaSem sig := 72
abbrev cc3_sem8_1 : DmaSem sig := 73
abbrev cc3_sem9_0 : DmaSem sig := 74
abbrev cc3_sem10_0 : DmaSem sig := 75
abbrev cc3_sem11_0 : DmaSem sig := 76
abbrev cc3_sem12_0 : DmaSem sig := 77
abbrev cc3_sem12_1 : DmaSem sig := 78
abbrev cc3_sem13_0 : DmaSem sig := 79
abbrev cc3_sem13_1 : DmaSem sig := 80
abbrev cc3_sem14_0 : DmaSem sig := 81
abbrev cc3_sem14_1 : DmaSem sig := 82
abbrev cc4_sem0_0 : DmaSem sig := 83
abbrev cc4_sem0_1 : DmaSem sig := 84
abbrev cc4_sem1_0 : DmaSem sig := 85
abbrev cc4_sem2_0 : DmaSem sig := 86
abbrev cc4_sem2_1 : DmaSem sig := 87
abbrev cc4_sem3_0 : DmaSem sig := 88
abbrev cc4_sem3_1 : DmaSem sig := 89
abbrev cc4_sem4_0 : DmaSem sig := 90
abbrev cc4_sem4_1 : DmaSem sig := 91
abbrev cc4_sem5_0 : DmaSem sig := 92
abbrev cc4_sem5_1 : DmaSem sig := 93
abbrev cc4_sem6_0 : DmaSem sig := 94
abbrev cc4_sem6_1 : DmaSem sig := 95
abbrev cc4_sem7_0 : DmaSem sig := 96
abbrev cc4_sem8_0 : DmaSem sig := 97
abbrev cc4_sem9_0 : DmaSem sig := 98
abbrev cc4_sem10_0 : DmaSem sig := 99
abbrev cc4_sem11_0 : DmaSem sig := 100
abbrev cc4_sem12_0 : DmaSem sig := 101
abbrev cc4_sem12_1 : DmaSem sig := 102
abbrev cc4_sem13_0 : DmaSem sig := 103
abbrev cc4_sem13_1 : DmaSem sig := 104
abbrev cc4_sem14_0 : DmaSem sig := 105
abbrev cc4_sem14_1 : DmaSem sig := 106
abbrev cc4_sem15_0 : DmaSem sig := 107
abbrev cc4_sem15_1 : DmaSem sig := 108
abbrev cc4_sem16_0 : DmaSem sig := 109
abbrev cc4_sem16_1 : DmaSem sig := 110
abbrev cc4_sem17_0 : DmaSem sig := 111
abbrev cc4_sem17_1 : DmaSem sig := 112

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v33 : BitVec 1 := Scalar.cmpi .eq arg0 c31_i32
  let v34 : BitVec 32 := Scalar.extui v33
  let c0_i32_29 : BitVec 32 := 0#32
  let v35 : BitVec 1 := Scalar.cmpi .ne v34 c0_i32_29
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4096x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4096x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4096x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := .none

abbrev stage2_0 : Fin 1 → Memref sig .tc .vmem S4096x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S4096x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S4096x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S4096x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S4096x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S4096x64 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S4096x128 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S4096x64 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S4096x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4096x128 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4096x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S512x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S512x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S512x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S512x64 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S512x128 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S512x64 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_13 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_14 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_15 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_16 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_17 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1024x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1024x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S64x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S64x16 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x16 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x16 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S1024x1 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev stage4_13 : Fin 2 → Memref sig .tc .vmem S1024x1 .f32 := fun | 0 => Memref.whole cc4_stg13_0 | 1 => Memref.whole cc4_stg13_1 | ⟨_ + 2, h⟩ => absurd h (Nat.not_lt.2 (Nat.le_add_left _ _))
abbrev sem4_13 : Fin 2 → DmaSem sig := fun | 0 => cc4_sem13_0 | 1 => cc4_sem13_1 | ⟨_ + 2, h⟩ => absurd h (Nat.not_lt.2 (Nat.le_add_left _ _))
abbrev reads4_13 : Fin grid4.rank → Bool := ![true]

abbrev stage4_14 : Fin 2 → Memref sig .tc .vmem S1024x64 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true]

abbrev stage4_15 : Fin 2 → Memref sig .tc .vmem S1024x1 .f32 := fun | 0 => Memref.whole cc4_stg15_0 | 1 => Memref.whole cc4_stg15_1 | ⟨_ + 2, h⟩ => absurd h (Nat.not_lt.2 (Nat.le_add_left _ _))
abbrev sem4_15 : Fin 2 → DmaSem sig := fun | 0 => cc4_sem15_0 | 1 => cc4_sem15_1 | ⟨_ + 2, h⟩ => absurd h (Nat.not_lt.2 (Nat.le_add_left _ _))
abbrev reads4_15 : Fin grid4.rank → Bool := ![true]

abbrev stage4_16 : Fin 2 → Memref sig .tc .vmem S1024x1 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true]

abbrev stage4_17 : Fin 2 → Memref sig .tc .vmem S1024x1 .f32 := fun | 0 => Memref.whole cc4_stg17_0 | 1 => Memref.whole cc4_stg17_1 | ⟨_ + 2, h⟩ => absurd h (Nat.not_lt.2 (Nat.le_add_left _ _))
abbrev sem4_17 : Fin 2 → DmaSem sig := fun | 0 => cc4_sem17_0 | 1 => cc4_sem17_1 | ⟨_ + 2, h⟩ => absurd h (Nat.not_lt.2 (Nat.le_add_left _ _))
abbrev reads4_17 : Fin grid4.rank → Bool := ![true]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S64x16 : Shape := ⟨2, ![64, 16]⟩
abbrev S16 : Shape := ⟨1, ![16]⟩
abbrev S16x1 : Shape := ⟨2, ![16, 1]⟩
abbrev S1x64x64 : Shape := ⟨3, ![1, 64, 64]⟩
abbrev S1 : Shape := ⟨1, ![1]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x128 : Shape := ⟨2, ![1, 128]⟩
abbrev S4096x64 : Shape := ⟨2, ![4096, 64]⟩
abbrev S1x64 : Shape := ⟨2, ![1, 64]⟩
abbrev S64x64 : Shape := ⟨2, ![64, 64]⟩
abbrev S64x4096 : Shape := ⟨2, ![64, 4096]⟩
abbrev S1x1 : Shape := ⟨2, ![1, 1]⟩
abbrev S4096x2 : Shape := ⟨2, ![4096, 2]⟩
abbrev S4096x1x64 : Shape := ⟨3, ![4096, 1, 64]⟩
abbrev S4096x3x64 : Shape := ⟨3, ![4096, 3, 64]⟩
abbrev S4096x3x16 : Shape := ⟨3, ![4096, 3, 16]⟩
abbrev S1x1x16 : Shape := ⟨3, ![1, 1, 16]⟩
abbrev S4096x3x1 : Shape := ⟨3, ![4096, 3, 1]⟩
abbrev S4096x1x1 : Shape := ⟨3, ![4096, 1, 1]⟩

abbrev nBuf : Space → Nat
  | .hbm => 475
  | .vmem => 0
  | .smem => 0
  | _ => 0

abbrev hbmTy0_0 (i : Nat) : BufTy := match i % 128 with
  | 0 => ⟨S4096x128, .f32⟩
  | 1 => ⟨S4096x128, .f32⟩
  | 2 => ⟨S4096x4096, .f32⟩
  | 3 => ⟨S4096x4096, .f32⟩
  | 4 => ⟨S4096x4096, .f32⟩
  | 5 => ⟨S128x128, .f32⟩
  | 6 => ⟨S128, .f32⟩
  | 7 => ⟨S128x64, .f32⟩
  | 8 => ⟨S64, .f32⟩
  | 9 => ⟨S64x128, .f32⟩
  | 10 => ⟨S128, .f32⟩
  | 11 => ⟨S128x128, .f32⟩
  | 12 => ⟨S128, .f32⟩
  | 13 => ⟨S128, .f32⟩
  | 14 => ⟨S128, .f32⟩
  | 15 => ⟨S64x16, .f32⟩
  | 16 => ⟨S16, .f32⟩
  | 17 => ⟨S16x1, .f32⟩
  | 18 => ⟨S1x64x64, .f32⟩
  | 19 => ⟨S1, .f32⟩
  | 20 => ⟨S_, .f32⟩
  | 21 => ⟨S4096, .f32⟩
  | 22 => ⟨S_, .f32⟩
  | 23 => ⟨S4096, .f32⟩
  | 24 => ⟨S4096, .i1⟩
  | 25 => ⟨S4096, .f32⟩
  | 26 => ⟨S_, .f32⟩
  | 27 => ⟨S4096, .f32⟩
  | 28 => ⟨S4096, .f32⟩
  | 29 => ⟨S_, .f32⟩
  | 30 => ⟨S_, .f32⟩
  | 31 => ⟨S4096, .f32⟩
  | 32 => ⟨S4096, .f32⟩
  | 33 => ⟨S4096x1, .f32⟩
  | 34 => ⟨S4096x4096, .f32⟩
  | 35 => ⟨S4096x4096, .f32⟩
  | 36 => ⟨S1x4096, .f32⟩
  | 37 => ⟨S4096x4096, .f32⟩
  | 38 => ⟨S4096x4096, .f32⟩
  | 39 => ⟨S4096x4096, .f32⟩
  | 40 => ⟨S4096x128, .f32⟩
  | 41 => ⟨S4096x128, .f32⟩
  | 42 => ⟨S1x128, .f32⟩
  | 43 => ⟨S4096x128, .f32⟩
  | 44 => ⟨S4096x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S4096x128, .f32⟩
  | 58 => ⟨S4096x128, .f32⟩
  | 59 => ⟨S4096x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S4096x128, .f32⟩
  | 75 => ⟨S4096x128, .f32⟩
  | 76 => ⟨S_, .f32⟩
  | 77 => ⟨S128, .f32⟩
  | 78 => ⟨S128, .f32⟩
  | 79 => ⟨S128, .f32⟩
  | 80 => ⟨S1x128, .f32⟩
  | 81 => ⟨S4096x128, .f32⟩
  | 82 => ⟨S4096x128, .f32⟩
  | 83 => ⟨S1x128, .f32⟩
  | 84 => ⟨S4096x128, .f32⟩
  | 85 => ⟨S4096x128, .f32⟩
  | 86 => ⟨S1x128, .f32⟩
  | 87 => ⟨S4096x128, .f32⟩
  | 88 => ⟨S4096x128, .f32⟩
  | 89 => ⟨S_, .f32⟩
  | 90 => ⟨S4096x128, .f32⟩
  | 91 => ⟨S4096x128, .f32⟩
  | 92 => ⟨S_, .f32⟩
  | 93 => ⟨S4096, .f32⟩
  | 94 => ⟨S_, .f32⟩
  | 95 => ⟨S4096, .f32⟩
  | 96 => ⟨S4096, .i1⟩
  | 97 => ⟨S4096, .f32⟩
  | 98 => ⟨S_, .f32⟩
  | 99 => ⟨S4096, .f32⟩
  | 100 => ⟨S4096, .f32⟩
  | 101 => ⟨S_, .f32⟩
  | 102 => ⟨S_, .f32⟩
  | 103 => ⟨S4096, .f32⟩
  | 104 => ⟨S4096, .f32⟩
  | 105 => ⟨S4096x1, .f32⟩
  | 106 => ⟨S4096x4096, .f32⟩
  | 107 => ⟨S4096x4096, .f32⟩
  | 108 => ⟨S1x4096, .f32⟩
  | 109 => ⟨S4096x4096, .f32⟩
  | 110 => ⟨S4096x4096, .f32⟩
  | 111 => ⟨S4096x4096, .f32⟩
  | 112 => ⟨S4096x64, .f32⟩
  | 113 => ⟨S4096x64, .f32⟩
  | 114 => ⟨S1x64, .f32⟩
  | 115 => ⟨S4096x64, .f32⟩
  | 116 => ⟨S4096x64, .f32⟩
  | 117 => ⟨S_, .f32⟩
  | 118 => ⟨S4096, .f32⟩
  | 119 => ⟨S_, .f32⟩
  | 120 => ⟨S4096, .f32⟩
  | 121 => ⟨S4096, .i1⟩
  | 122 => ⟨S4096, .f32⟩
  | 123 => ⟨S_, .f32⟩
  | 124 => ⟨S4096, .f32⟩
  | 125 => ⟨S4096, .f32⟩
  | 126 => ⟨S_, .f32⟩
  | 127 => ⟨S_, .f32⟩
  | _ => ⟨S4096x128, .f32⟩

abbrev hbmTy0_1 (i : Nat) : BufTy := match i % 128 with
  | 0 => ⟨S4096, .f32⟩
  | 1 => ⟨S4096, .f32⟩
  | 2 => ⟨S4096x1, .f32⟩
  | 3 => ⟨S4096x4096, .f32⟩
  | 4 => ⟨S4096x4096, .f32⟩
  | 5 => ⟨S1x4096, .f32⟩
  | 6 => ⟨S4096x4096, .f32⟩
  | 7 => ⟨S4096x4096, .f32⟩
  | 8 => ⟨S4096x4096, .f32⟩
  | 9 => ⟨S4096x128, .f32⟩
  | 10 => ⟨S4096x128, .f32⟩
  | 11 => ⟨S1x128, .f32⟩
  | 12 => ⟨S4096x128, .f32⟩
  | 13 => ⟨S4096x128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S4096x128, .f32⟩
  | 27 => ⟨S4096x128, .f32⟩
  | 28 => ⟨S4096x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S4096x128, .f32⟩
  | 44 => ⟨S4096x128, .f32⟩
  | 45 => ⟨S_, .f32⟩
  | 46 => ⟨S128, .f32⟩
  | 47 => ⟨S128, .f32⟩
  | 48 => ⟨S128, .f32⟩
  | 49 => ⟨S1x128, .f32⟩
  | 50 => ⟨S4096x128, .f32⟩
  | 51 => ⟨S4096x128, .f32⟩
  | 52 => ⟨S1x128, .f32⟩
  | 53 => ⟨S4096x128, .f32⟩
  | 54 => ⟨S4096x128, .f32⟩
  | 55 => ⟨S1x128, .f32⟩
  | 56 => ⟨S4096x128, .f32⟩
  | 57 => ⟨S4096x128, .f32⟩
  | 58 => ⟨S_, .f32⟩
  | 59 => ⟨S4096x128, .f32⟩
  | 60 => ⟨S4096x128, .f32⟩
  | 61 => ⟨S_, .f32⟩
  | 62 => ⟨S4096, .f32⟩
  | 63 => ⟨S_, .f32⟩
  | 64 => ⟨S4096, .f32⟩
  | 65 => ⟨S4096, .i1⟩
  | 66 => ⟨S4096, .f32⟩
  | 67 => ⟨S_, .f32⟩
  | 68 => ⟨S4096, .f32⟩
  | 69 => ⟨S4096, .f32⟩
  | 70 => ⟨S_, .f32⟩
  | 71 => ⟨S_, .f32⟩
  | 72 => ⟨S4096, .f32⟩
  | 73 => ⟨S4096, .f32⟩
  | 74 => ⟨S4096x1, .f32⟩
  | 75 => ⟨S4096x4096, .f32⟩
  | 76 => ⟨S4096x4096, .f32⟩
  | 77 => ⟨S1x4096, .f32⟩
  | 78 => ⟨S4096x4096, .f32⟩
  | 79 => ⟨S4096x4096, .f32⟩
  | 80 => ⟨S4096x4096, .f32⟩
  | 81 => ⟨S4096x64, .f32⟩
  | 82 => ⟨S4096x64, .f32⟩
  | 83 => ⟨S1x64, .f32⟩
  | 84 => ⟨S4096x64, .f32⟩
  | 85 => ⟨S4096x64, .f32⟩
  | 86 => ⟨S_, .f32⟩
  | 87 => ⟨S4096, .f32⟩
  | 88 => ⟨S_, .f32⟩
  | 89 => ⟨S4096, .f32⟩
  | 90 => ⟨S4096, .i1⟩
  | 91 => ⟨S4096, .f32⟩
  | 92 => ⟨S_, .f32⟩
  | 93 => ⟨S4096, .f32⟩
  | 94 => ⟨S4096, .f32⟩
  | 95 => ⟨S_, .f32⟩
  | 96 => ⟨S_, .f32⟩
  | 97 => ⟨S4096, .f32⟩
  | 98 => ⟨S4096, .f32⟩
  | 99 => ⟨S4096x1, .f32⟩
  | 100 => ⟨S4096x4096, .f32⟩
  | 101 => ⟨S4096x4096, .f32⟩
  | 102 => ⟨S1x4096, .f32⟩
  | 103 => ⟨S4096x4096, .f32⟩
  | 104 => ⟨S4096x4096, .f32⟩
  | 105 => ⟨S4096x4096, .f32⟩
  | 106 => ⟨S4096x128, .f32⟩
  | 107 => ⟨S4096x128, .f32⟩
  | 108 => ⟨S1x128, .f32⟩
  | 109 => ⟨S4096x128, .f32⟩
  | 110 => ⟨S4096x128, .f32⟩
  | 111 => ⟨S_, .f32⟩
  | 112 => ⟨S128, .f32⟩
  | 113 => ⟨S_, .f32⟩
  | 114 => ⟨S128, .f32⟩
  | 115 => ⟨S128, .f32⟩
  | 116 => ⟨S_, .i32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S4096x128, .f32⟩
  | 124 => ⟨S4096x128, .f32⟩
  | 125 => ⟨S4096x128, .f32⟩
  | 126 => ⟨S_, .f32⟩
  | 127 => ⟨S_, .f32⟩
  | _ => ⟨S4096x128, .f32⟩

abbrev hbmTy0_2 (i : Nat) : BufTy := match i % 128 with
  | 0 => ⟨S_, .f32⟩
  | 1 => ⟨S_, .f32⟩
  | 2 => ⟨S128, .f32⟩
  | 3 => ⟨S128, .f32⟩
  | 4 => ⟨S128, .f32⟩
  | 5 => ⟨S_, .f32⟩
  | 6 => ⟨S_, .i1⟩
  | 7 => ⟨S_, .f32⟩
  | 8 => ⟨S_, .f32⟩
  | 9 => ⟨S128, .f32⟩
  | 10 => ⟨S128, .f32⟩
  | 11 => ⟨S1x128, .f32⟩
  | 12 => ⟨S4096x128, .f32⟩
  | 13 => ⟨S4096x128, .f32⟩
  | 14 => ⟨S_, .f32⟩
  | 15 => ⟨S128, .f32⟩
  | 16 => ⟨S128, .f32⟩
  | 17 => ⟨S128, .f32⟩
  | 18 => ⟨S1x128, .f32⟩
  | 19 => ⟨S4096x128, .f32⟩
  | 20 => ⟨S4096x128, .f32⟩
  | 21 => ⟨S1x128, .f32⟩
  | 22 => ⟨S4096x128, .f32⟩
  | 23 => ⟨S4096x128, .f32⟩
  | 24 => ⟨S1x128, .f32⟩
  | 25 => ⟨S4096x128, .f32⟩
  | 26 => ⟨S4096x128, .f32⟩
  | 27 => ⟨S_, .f32⟩
  | 28 => ⟨S4096x128, .f32⟩
  | 29 => ⟨S4096x128, .f32⟩
  | 30 => ⟨S_, .f32⟩
  | 31 => ⟨S4096, .f32⟩
  | 32 => ⟨S_, .f32⟩
  | 33 => ⟨S4096, .f32⟩
  | 34 => ⟨S4096, .i1⟩
  | 35 => ⟨S4096, .f32⟩
  | 36 => ⟨S_, .f32⟩
  | 37 => ⟨S4096, .f32⟩
  | 38 => ⟨S4096, .f32⟩
  | 39 => ⟨S_, .f32⟩
  | 40 => ⟨S_, .f32⟩
  | 41 => ⟨S4096, .f32⟩
  | 42 => ⟨S4096, .f32⟩
  | 43 => ⟨S4096x1, .f32⟩
  | 44 => ⟨S4096x4096, .f32⟩
  | 45 => ⟨S4096x4096, .f32⟩
  | 46 => ⟨S1x4096, .f32⟩
  | 47 => ⟨S4096x4096, .f32⟩
  | 48 => ⟨S4096x4096, .f32⟩
  | 49 => ⟨S4096x4096, .f32⟩
  | 50 => ⟨S4096x64, .f32⟩
  | 51 => ⟨S4096x64, .f32⟩
  | 52 => ⟨S1x64, .f32⟩
  | 53 => ⟨S4096x64, .f32⟩
  | 54 => ⟨S4096x64, .f32⟩
  | 55 => ⟨S4096x64, .f32⟩
  | 56 => ⟨S_, .f32⟩
  | 57 => ⟨S4096, .f32⟩
  | 58 => ⟨S4096x1, .f32⟩
  | 59 => ⟨S4096x64, .f32⟩
  | 60 => ⟨S4096x64, .f32⟩
  | 61 => ⟨S4096x64, .f32⟩
  | 62 => ⟨S_, .f32⟩
  | 63 => ⟨S4096, .f32⟩
  | 64 => ⟨S4096x1, .f32⟩
  | 65 => ⟨S4096x1, .f32⟩
  | 66 => ⟨S_, .f32⟩
  | 67 => ⟨S4096x1, .f32⟩
  | 68 => ⟨S4096x1, .f32⟩
  | 69 => ⟨S4096x64, .f32⟩
  | 70 => ⟨S4096x64, .f32⟩
  | 71 => ⟨S4096x64, .f32⟩
  | 72 => ⟨S4096x64, .f32⟩
  | 73 => ⟨S_, .f32⟩
  | 74 => ⟨S4096x64, .f32⟩
  | 75 => ⟨S4096x64, .f32⟩
  | 76 => ⟨S_, .f32⟩
  | 77 => ⟨S4096x64, .f32⟩
  | 78 => ⟨S4096x64, .f32⟩
  | 79 => ⟨S64x64, .f32⟩
  | 80 => ⟨S64x4096, .f32⟩
  | 81 => ⟨S4096, .f32⟩
  | 82 => ⟨S4096x1, .f32⟩
  | 83 => ⟨S1x1, .f32⟩
  | 84 => ⟨S4096x1, .f32⟩
  | 85 => ⟨S4096x1, .f32⟩
  | 86 => ⟨S64x64, .f32⟩
  | 87 => ⟨S64x4096, .f32⟩
  | 88 => ⟨S4096, .f32⟩
  | 89 => ⟨S4096x1, .f32⟩
  | 90 => ⟨S1x1, .f32⟩
  | 91 => ⟨S4096x1, .f32⟩
  | 92 => ⟨S4096x1, .f32⟩
  | 93 => ⟨S4096x2, .f32⟩
  | 94 => ⟨S_, .f32⟩
  | 95 => ⟨S4096, .f32⟩
  | 96 => ⟨S_, .f32⟩
  | 97 => ⟨S4096, .f32⟩
  | 98 => ⟨S4096, .i1⟩
  | 99 => ⟨S4096, .f32⟩
  | 100 => ⟨S_, .f32⟩
  | 101 => ⟨S4096, .f32⟩
  | 102 => ⟨S4096, .f32⟩
  | 103 => ⟨S_, .f32⟩
  | 104 => ⟨S_, .f32⟩
  | 105 => ⟨S4096, .f32⟩
  | 106 => ⟨S4096, .f32⟩
  | 107 => ⟨S4096x1, .f32⟩
  | 108 => ⟨S4096x4096, .f32⟩
  | 109 => ⟨S4096x4096, .f32⟩
  | 110 => ⟨S1x4096, .f32⟩
  | 111 => ⟨S4096x4096, .f32⟩
  | 112 => ⟨S4096x4096, .f32⟩
  | 113 => ⟨S4096x4096, .f32⟩
  | 114 => ⟨S4096x128, .f32⟩
  | 115 => ⟨S4096x128, .f32⟩
  | 116 => ⟨S1x128, .f32⟩
  | 117 => ⟨S4096x128, .f32⟩
  | 118 => ⟨S4096x128, .f32⟩
  | 119 => ⟨S_, .f32⟩
  | 120 => ⟨S128, .f32⟩
  | 121 => ⟨S_, .f32⟩
  | 122 => ⟨S128, .f32⟩
  | 123 => ⟨S128, .f32⟩
  | 124 => ⟨S_, .i32⟩
  | 125 => ⟨S_, .f32⟩
  | 126 => ⟨S128, .f32⟩
  | 127 => ⟨S1x128, .f32⟩
  | _ => ⟨S4096x128, .f32⟩

abbrev hbmTy0_3 (i : Nat) : BufTy := match i % 128 with
  | 0 => ⟨S_, .f32⟩
  | 1 => ⟨S1x128, .f32⟩
  | 2 => ⟨S1x128, .f32⟩
  | 3 => ⟨S4096x128, .f32⟩
  | 4 => ⟨S4096x128, .f32⟩
  | 5 => ⟨S4096x128, .f32⟩
  | 6 => ⟨S_, .f32⟩
  | 7 => ⟨S_, .f32⟩
  | 8 => ⟨S_, .f32⟩
  | 9 => ⟨S_, .f32⟩
  | 10 => ⟨S128, .f32⟩
  | 11 => ⟨S128, .f32⟩
  | 12 => ⟨S128, .f32⟩
  | 13 => ⟨S_, .f32⟩
  | 14 => ⟨S_, .i1⟩
  | 15 => ⟨S_, .f32⟩
  | 16 => ⟨S_, .f32⟩
  | 17 => ⟨S128, .f32⟩
  | 18 => ⟨S128, .f32⟩
  | 19 => ⟨S1x128, .f32⟩
  | 20 => ⟨S4096x128, .f32⟩
  | 21 => ⟨S4096x128, .f32⟩
  | 22 => ⟨S_, .f32⟩
  | 23 => ⟨S128, .f32⟩
  | 24 => ⟨S128, .f32⟩
  | 25 => ⟨S128, .f32⟩
  | 26 => ⟨S1x128, .f32⟩
  | 27 => ⟨S4096x128, .f32⟩
  | 28 => ⟨S4096x128, .f32⟩
  | 29 => ⟨S1x128, .f32⟩
  | 30 => ⟨S4096x128, .f32⟩
  | 31 => ⟨S4096x128, .f32⟩
  | 32 => ⟨S1x128, .f32⟩
  | 33 => ⟨S4096x128, .f32⟩
  | 34 => ⟨S4096x128, .f32⟩
  | 35 => ⟨S_, .f32⟩
  | 36 => ⟨S4096x128, .f32⟩
  | 37 => ⟨S4096x128, .f32⟩
  | 38 => ⟨S_, .f32⟩
  | 39 => ⟨S4096, .f32⟩
  | 40 => ⟨S_, .f32⟩
  | 41 => ⟨S4096, .f32⟩
  | 42 => ⟨S4096, .i1⟩
  | 43 => ⟨S4096, .f32⟩
  | 44 => ⟨S_, .f32⟩
  | 45 => ⟨S4096, .f32⟩
  | 46 => ⟨S4096, .f32⟩
  | 47 => ⟨S_, .f32⟩
  | 48 => ⟨S_, .f32⟩
  | 49 => ⟨S4096, .f32⟩
  | 50 => ⟨S4096, .f32⟩
  | 51 => ⟨S4096x1, .f32⟩
  | 52 => ⟨S4096x4096, .f32⟩
  | 53 => ⟨S4096x4096, .f32⟩
  | 54 => ⟨S1x4096, .f32⟩
  | 55 => ⟨S4096x4096, .f32⟩
  | 56 => ⟨S4096x4096, .f32⟩
  | 57 => ⟨S4096x4096, .f32⟩
  | 58 => ⟨S4096x64, .f32⟩
  | 59 => ⟨S4096x64, .f32⟩
  | 60 => ⟨S1x64, .f32⟩
  | 61 => ⟨S4096x64, .f32⟩
  | 62 => ⟨S4096x64, .f32⟩
  | 63 => ⟨S4096x1x64, .f32⟩
  | 64 => ⟨S4096x1x64, .f32⟩
  | 65 => ⟨S4096x1x64, .f32⟩
  | 66 => ⟨S4096x3x64, .f32⟩
  | 67 => ⟨S4096x3x16, .f32⟩
  | 68 => ⟨S1x1x16, .f32⟩
  | 69 => ⟨S4096x3x16, .f32⟩
  | 70 => ⟨S4096x3x16, .f32⟩
  | 71 => ⟨S4096x3x16, .f32⟩
  | 72 => ⟨S4096x3x1, .f32⟩
  | 73 => ⟨S_, .f32⟩
  | 74 => ⟨S4096x1, .f32⟩
  | 75 => ⟨S_, .f32⟩
  | 76 => ⟨S4096x1, .f32⟩
  | 77 => ⟨S4096x1, .f32⟩
  | 78 => ⟨S4096x1x1, .f32⟩
  | 79 => ⟨S4096x3x1, .f32⟩
  | 80 => ⟨S4096x3x1, .f32⟩
  | 81 => ⟨S4096x3x1, .f32⟩
  | 82 => ⟨S_, .f32⟩
  | 83 => ⟨S4096x1, .f32⟩
  | 84 => ⟨S4096x1x1, .f32⟩
  | 85 => ⟨S4096x3x1, .f32⟩
  | 86 => ⟨S4096x3x1, .f32⟩
  | 87 => ⟨S4096x3x64, .f32⟩
  | 88 => ⟨S4096x3x64, .f32⟩
  | 89 => ⟨S_, .f32⟩
  | 90 => ⟨S4096x64, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_cst_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_c : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_cst_3 : Ref sig .tc := ⟨.hbm, 67, rfl⟩
abbrev main_call1_v12 : Ref sig .tc := ⟨.hbm, 68, rfl⟩
abbrev main_call1_cst_4 : Ref sig .tc := ⟨.hbm, 69, rfl⟩
abbrev main_call1_call0_v0 : Ref sig .tc := ⟨.hbm, 70, rfl⟩
abbrev main_call1_call0_v1 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_cst_5 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_call2_cst : Ref sig .tc := ⟨.hbm, 89, rfl⟩
abbrev main_call2_v0 : Ref sig .tc := ⟨.hbm, 90, rfl⟩
abbrev main_v38 : Ref sig .tc := ⟨.hbm, 91, rfl⟩
abbrev main_cst_6 : Ref sig .tc := ⟨.hbm, 92, rfl⟩
abbrev main_v39 : Ref sig .tc := ⟨.hbm, 93, rfl⟩
abbrev main_cst_7 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_8 : Ref sig .tc := ⟨.hbm, 98, rfl⟩
abbrev main_v43 : Ref sig .tc := ⟨.hbm, 99, rfl⟩
abbrev main_v44 : Ref sig .tc := ⟨.hbm, 100, rfl⟩
abbrev main_cst_9 : Ref sig .tc := ⟨.hbm, 101, rfl⟩
abbrev main_call3_v0 : Ref sig .tc := ⟨.hbm, 102, rfl⟩
abbrev main_call3_v1 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_cst_10 : Ref sig .tc := ⟨.hbm, 117, rfl⟩
abbrev main_v58 : Ref sig .tc := ⟨.hbm, 118, rfl⟩
abbrev main_cst_11 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_cst_12 : Ref sig .tc := ⟨.hbm, 123, rfl⟩
abbrev main_v62 : Ref sig .tc := ⟨.hbm, 124, rfl⟩
abbrev main_v63 : Ref sig .tc := ⟨.hbm, 125, rfl⟩
abbrev main_cst_13 : Ref sig .tc := ⟨.hbm, 126, rfl⟩
abbrev main_call4_v0 : Ref sig .tc := ⟨.hbm, 127, rfl⟩
abbrev main_call4_v1 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_14 : Ref sig .tc := ⟨.hbm, 142, rfl⟩
abbrev main_v77 : Ref sig .tc := ⟨.hbm, 143, rfl⟩
abbrev main_cst_15 : Ref sig .tc := ⟨.hbm, 144, rfl⟩
abbrev main_v78 : Ref sig .tc := ⟨.hbm, 145, rfl⟩
abbrev main_v79 : Ref sig .tc := ⟨.hbm, 146, rfl⟩
abbrev main_c_16 : Ref sig .tc := ⟨.hbm, 147, rfl⟩
abbrev main_call5_cst : Ref sig .tc := ⟨.hbm, 148, rfl⟩
abbrev main_call5_v0 : Ref sig .tc := ⟨.hbm, 149, rfl⟩
abbrev main_call5_v1 : Ref sig .tc := ⟨.hbm, 150, rfl⟩
abbrev main_call5_cst_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_v6 : Ref sig .tc := ⟨.hbm, 156, rfl⟩
abbrev main_call5_v7 : Ref sig .tc := ⟨.hbm, 157, rfl⟩
abbrev main_call5_cst_1 : Ref sig .tc := ⟨.hbm, 158, rfl⟩
abbrev main_call5_v8 : Ref sig .tc := ⟨.hbm, 159, rfl⟩
abbrev main_call5_cst_2 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_cst_3 : Ref sig .tc := ⟨.hbm, 164, rfl⟩
abbrev main_call5_v12 : Ref sig .tc := ⟨.hbm, 165, rfl⟩
abbrev main_call5_cst_4 : Ref sig .tc := ⟨.hbm, 166, rfl⟩
abbrev main_call5_call0_v0 : Ref sig .tc := ⟨.hbm, 167, rfl⟩
abbrev main_call5_call0_v1 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_cst_17 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_call6_cst : Ref sig .tc := ⟨.hbm, 186, rfl⟩
abbrev main_call6_v0 : Ref sig .tc := ⟨.hbm, 187, rfl⟩
abbrev main_v96 : Ref sig .tc := ⟨.hbm, 188, rfl⟩
abbrev main_cst_18 : Ref sig .tc := ⟨.hbm, 189, rfl⟩
abbrev main_v97 : Ref sig .tc := ⟨.hbm, 190, rfl⟩
abbrev main_cst_19 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_cst_20 : Ref sig .tc := ⟨.hbm, 195, rfl⟩
abbrev main_v101 : Ref sig .tc := ⟨.hbm, 196, rfl⟩
abbrev main_v102 : Ref sig .tc := ⟨.hbm, 197, rfl⟩
abbrev main_cst_21 : Ref sig .tc := ⟨.hbm, 198, rfl⟩
abbrev main_call7_v0 : Ref sig .tc := ⟨.hbm, 199, rfl⟩
abbrev main_call7_v1 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_cst_22 : Ref sig .tc := ⟨.hbm, 214, rfl⟩
abbrev main_v116 : Ref sig .tc := ⟨.hbm, 215, rfl⟩
abbrev main_cst_23 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_cst_24 : Ref sig .tc := ⟨.hbm, 220, rfl⟩
abbrev main_v120 : Ref sig .tc := ⟨.hbm, 221, rfl⟩
abbrev main_v121 : Ref sig .tc := ⟨.hbm, 222, rfl⟩
abbrev main_cst_25 : Ref sig .tc := ⟨.hbm, 223, rfl⟩
abbrev main_call8_v0 : Ref sig .tc := ⟨.hbm, 224, rfl⟩
abbrev main_call8_v1 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_cst_26 : Ref sig .tc := ⟨.hbm, 239, rfl⟩
abbrev main_v135 : Ref sig .tc := ⟨.hbm, 240, rfl⟩
abbrev main_cst_27 : Ref sig .tc := ⟨.hbm, 241, rfl⟩
abbrev main_v136 : Ref sig .tc := ⟨.hbm, 242, rfl⟩
abbrev main_v137 : Ref sig .tc := ⟨.hbm, 243, rfl⟩
abbrev main_c_28 : Ref sig .tc := ⟨.hbm, 244, rfl⟩
abbrev main_call9_cst : Ref sig .tc := ⟨.hbm, 245, rfl⟩
abbrev main_call9_v0 : Ref sig .tc := ⟨.hbm, 246, rfl⟩
abbrev main_call9_v1 : Ref sig .tc := ⟨.hbm, 247, rfl⟩
abbrev main_call9_cst_0 : Ref sig .tc := ⟨.hbm, 248, rfl⟩
abbrev main_call9_v2 : Ref sig .tc := ⟨.hbm, 249, rfl⟩
abbrev main_call9_v3 : Ref sig .tc := ⟨.hbm, 250, rfl⟩
abbrev main_call9_v4 : Ref sig .tc := ⟨.hbm, 251, rfl⟩
abbrev main_call9_v5 : Ref sig .tc := ⟨.hbm, 252, rfl⟩
abbrev main_call9_v6 : Ref sig .tc := ⟨.hbm, 253, rfl⟩
abbrev main_call9_v7 : Ref sig .tc := ⟨.hbm, 254, rfl⟩
abbrev main_call9_cst_1 : Ref sig .tc := ⟨.hbm, 255, rfl⟩
abbrev main_call9_v8 : Ref sig .tc := ⟨.hbm, 256, rfl⟩
abbrev main_call9_cst_2 : Ref sig .tc := ⟨.hbm, 257, rfl⟩
abbrev main_call9_v9 : Ref sig .tc := ⟨.hbm, 258, rfl⟩
abbrev main_call9_v10 : Ref sig .tc := ⟨.hbm, 259, rfl⟩
abbrev main_call9_v11 : Ref sig .tc := ⟨.hbm, 260, rfl⟩
abbrev main_call9_cst_3 : Ref sig .tc := ⟨.hbm, 261, rfl⟩
abbrev main_call9_v12 : Ref sig .tc := ⟨.hbm, 262, rfl⟩
abbrev main_call9_cst_4 : Ref sig .tc := ⟨.hbm, 263, rfl⟩
abbrev main_call9_call0_v0 : Ref sig .tc := ⟨.hbm, 264, rfl⟩
abbrev main_call9_call0_v1 : Ref sig .tc := ⟨.hbm, 265, rfl⟩
abbrev main_v138 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_cst_29 : Ref sig .tc := ⟨.hbm, 270, rfl⟩
abbrev main_v142 : Ref sig .tc := ⟨.hbm, 271, rfl⟩
abbrev main_v143 : Ref sig .tc := ⟨.hbm, 272, rfl⟩
abbrev main_v144 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_call10_cst : Ref sig .tc := ⟨.hbm, 283, rfl⟩
abbrev main_call10_v0 : Ref sig .tc := ⟨.hbm, 284, rfl⟩
abbrev main_v154 : Ref sig .tc := ⟨.hbm, 285, rfl⟩
abbrev main_cst_30 : Ref sig .tc := ⟨.hbm, 286, rfl⟩
abbrev main_v155 : Ref sig .tc := ⟨.hbm, 287, rfl⟩
abbrev main_cst_31 : Ref sig .tc := ⟨.hbm, 288, rfl⟩
abbrev main_v156 : Ref sig .tc := ⟨.hbm, 289, rfl⟩
abbrev main_v157 : Ref sig .tc := ⟨.hbm, 290, rfl⟩
abbrev main_v158 : Ref sig .tc := ⟨.hbm, 291, rfl⟩
abbrev main_cst_32 : Ref sig .tc := ⟨.hbm, 292, rfl⟩
abbrev main_v159 : Ref sig .tc := ⟨.hbm, 293, rfl⟩
abbrev main_v160 : Ref sig .tc := ⟨.hbm, 294, rfl⟩
abbrev main_cst_33 : Ref sig .tc := ⟨.hbm, 295, rfl⟩
abbrev main_call11_v0 : Ref sig .tc := ⟨.hbm, 296, rfl⟩
abbrev main_call11_v1 : Ref sig .tc := ⟨.hbm, 297, rfl⟩
abbrev main_v161 : Ref sig .tc := ⟨.hbm, 298, rfl⟩
abbrev main_v162 : Ref sig .tc := ⟨.hbm, 299, rfl⟩
abbrev main_v163 : Ref sig .tc := ⟨.hbm, 300, rfl⟩
abbrev main_v164 : Ref sig .tc := ⟨.hbm, 301, rfl⟩
abbrev main_v165 : Ref sig .tc := ⟨.hbm, 302, rfl⟩
abbrev main_v166 : Ref sig .tc := ⟨.hbm, 303, rfl⟩
abbrev main_v167 : Ref sig .tc := ⟨.hbm, 304, rfl⟩
abbrev main_v168 : Ref sig .tc := ⟨.hbm, 305, rfl⟩
abbrev main_v169 : Ref sig .tc := ⟨.hbm, 306, rfl⟩
abbrev main_v170 : Ref sig .tc := ⟨.hbm, 307, rfl⟩
abbrev main_v171 : Ref sig .tc := ⟨.hbm, 308, rfl⟩
abbrev main_v172 : Ref sig .tc := ⟨.hbm, 309, rfl⟩
abbrev main_v173 : Ref sig .tc := ⟨.hbm, 310, rfl⟩
abbrev main_v174 : Ref sig .tc := ⟨.hbm, 311, rfl⟩
abbrev main_cst_34 : Ref sig .tc := ⟨.hbm, 312, rfl⟩
abbrev main_v175 : Ref sig .tc := ⟨.hbm, 313, rfl⟩
abbrev main_v176 : Ref sig .tc := ⟨.hbm, 314, rfl⟩
abbrev main_v177 : Ref sig .tc := ⟨.hbm, 315, rfl⟩
abbrev main_v178 : Ref sig .tc := ⟨.hbm, 316, rfl⟩
abbrev main_v179 : Ref sig .tc := ⟨.hbm, 317, rfl⟩
abbrev main_cst_35 : Ref sig .tc := ⟨.hbm, 318, rfl⟩
abbrev main_v180 : Ref sig .tc := ⟨.hbm, 319, rfl⟩
abbrev main_v181 : Ref sig .tc := ⟨.hbm, 320, rfl⟩
abbrev main_v182 : Ref sig .tc := ⟨.hbm, 321, rfl⟩
abbrev main_cst_36 : Ref sig .tc := ⟨.hbm, 322, rfl⟩
abbrev main_v183 : Ref sig .tc := ⟨.hbm, 323, rfl⟩
abbrev main_v184 : Ref sig .tc := ⟨.hbm, 324, rfl⟩
abbrev main_v185 : Ref sig .tc := ⟨.hbm, 325, rfl⟩
abbrev main_v186 : Ref sig .tc := ⟨.hbm, 326, rfl⟩
abbrev main_v187 : Ref sig .tc := ⟨.hbm, 327, rfl⟩
abbrev main_v188 : Ref sig .tc := ⟨.hbm, 328, rfl⟩
abbrev main_cst_37 : Ref sig .tc := ⟨.hbm, 329, rfl⟩
abbrev main_v189 : Ref sig .tc := ⟨.hbm, 330, rfl⟩
abbrev main_v190 : Ref sig .tc := ⟨.hbm, 331, rfl⟩
abbrev main_cst_38 : Ref sig .tc := ⟨.hbm, 332, rfl⟩
abbrev main_v191 : Ref sig .tc := ⟨.hbm, 333, rfl⟩
abbrev main_v192 : Ref sig .tc := ⟨.hbm, 334, rfl⟩
abbrev main_v193 : Ref sig .tc := ⟨.hbm, 335, rfl⟩
abbrev main_v194 : Ref sig .tc := ⟨.hbm, 336, rfl⟩
abbrev main_v195 : Ref sig .tc := ⟨.hbm, 337, rfl⟩
abbrev main_v196 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_v202 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_cst_39 : Ref sig .tc := ⟨.hbm, 350, rfl⟩
abbrev main_v208 : Ref sig .tc := ⟨.hbm, 351, rfl⟩
abbrev main_cst_40 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_cst_41 : Ref sig .tc := ⟨.hbm, 356, rfl⟩
abbrev main_v212 : Ref sig .tc := ⟨.hbm, 357, rfl⟩
abbrev main_v213 : Ref sig .tc := ⟨.hbm, 358, rfl⟩
abbrev main_cst_42 : Ref sig .tc := ⟨.hbm, 359, rfl⟩
abbrev main_call12_v0 : Ref sig .tc := ⟨.hbm, 360, rfl⟩
abbrev main_call12_v1 : Ref sig .tc := ⟨.hbm, 361, rfl⟩
abbrev main_v214 : Ref sig .tc := ⟨.hbm, 362, rfl⟩
abbrev main_v215 : Ref sig .tc := ⟨.hbm, 363, rfl⟩
abbrev main_v216 : Ref sig .tc := ⟨.hbm, 364, rfl⟩
abbrev main_v217 : Ref sig .tc := ⟨.hbm, 365, rfl⟩
abbrev main_v218 : Ref sig .tc := ⟨.hbm, 366, rfl⟩
abbrev main_v219 : Ref sig .tc := ⟨.hbm, 367, rfl⟩
abbrev main_v220 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_v224 : Ref sig .tc := ⟨.hbm, 372, rfl⟩
abbrev main_v225 : Ref sig .tc := ⟨.hbm, 373, rfl⟩
abbrev main_v226 : Ref sig .tc := ⟨.hbm, 374, rfl⟩
abbrev main_cst_43 : Ref sig .tc := ⟨.hbm, 375, rfl⟩
abbrev main_v227 : Ref sig .tc := ⟨.hbm, 376, rfl⟩
abbrev main_cst_44 : Ref sig .tc := ⟨.hbm, 377, rfl⟩
abbrev main_v228 : Ref sig .tc := ⟨.hbm, 378, rfl⟩
abbrev main_v229 : Ref sig .tc := ⟨.hbm, 379, rfl⟩
abbrev main_c_45 : Ref sig .tc := ⟨.hbm, 380, rfl⟩
abbrev main_call13_cst : Ref sig .tc := ⟨.hbm, 381, rfl⟩
abbrev main_call13_v0 : Ref sig .tc := ⟨.hbm, 382, rfl⟩
abbrev main_call13_v1 : Ref sig .tc := ⟨.hbm, 383, rfl⟩
abbrev main_call13_cst_0 : Ref sig .tc := ⟨.hbm, 384, rfl⟩
abbrev main_call13_v2 : Ref sig .tc := ⟨.hbm, 385, rfl⟩
abbrev main_call13_v3 : Ref sig .tc := ⟨.hbm, 386, rfl⟩
abbrev main_call13_v4 : Ref sig .tc := ⟨.hbm, 387, rfl⟩
abbrev main_call13_v5 : Ref sig .tc := ⟨.hbm, 388, rfl⟩
abbrev main_call13_v6 : Ref sig .tc := ⟨.hbm, 389, rfl⟩
abbrev main_call13_v7 : Ref sig .tc := ⟨.hbm, 390, rfl⟩
abbrev main_call13_cst_1 : Ref sig .tc := ⟨.hbm, 391, rfl⟩
abbrev main_call13_v8 : Ref sig .tc := ⟨.hbm, 392, rfl⟩
abbrev main_call13_cst_2 : Ref sig .tc := ⟨.hbm, 393, rfl⟩
abbrev main_call13_v9 : Ref sig .tc := ⟨.hbm, 394, rfl⟩
abbrev main_call13_v10 : Ref sig .tc := ⟨.hbm, 395, rfl⟩
abbrev main_call13_v11 : Ref sig .tc := ⟨.hbm, 396, rfl⟩
abbrev main_call13_cst_3 : Ref sig .tc := ⟨.hbm, 397, rfl⟩
abbrev main_call13_v12 : Ref sig .tc := ⟨.hbm, 398, rfl⟩
abbrev main_call13_cst_4 : Ref sig .tc := ⟨.hbm, 399, rfl⟩
abbrev main_call13_call0_v0 : Ref sig .tc := ⟨.hbm, 400, rfl⟩
abbrev main_call13_call0_v1 : Ref sig .tc := ⟨.hbm, 401, rfl⟩
abbrev main_v230 : Ref sig .tc := ⟨.hbm, 402, rfl⟩
abbrev main_v231 : Ref sig .tc := ⟨.hbm, 403, rfl⟩
abbrev main_v232 : Ref sig .tc := ⟨.hbm, 404, rfl⟩
abbrev main_v233 : Ref sig .tc := ⟨.hbm, 405, rfl⟩
abbrev main_cst_46 : Ref sig .tc := ⟨.hbm, 406, rfl⟩
abbrev main_v234 : Ref sig .tc := ⟨.hbm, 407, rfl⟩
abbrev main_v235 : Ref sig .tc := ⟨.hbm, 408, rfl⟩
abbrev main_v236 : Ref sig .tc := ⟨.hbm, 409, rfl⟩
abbrev main_v237 : Ref sig .tc := ⟨.hbm, 410, rfl⟩
abbrev main_v238 : Ref sig .tc := ⟨.hbm, 411, rfl⟩
abbrev main_v239 : Ref sig .tc := ⟨.hbm, 412, rfl⟩
abbrev main_v240 : Ref sig .tc := ⟨.hbm, 413, rfl⟩
abbrev main_v241 : Ref sig .tc := ⟨.hbm, 414, rfl⟩
abbrev main_v242 : Ref sig .tc := ⟨.hbm, 415, rfl⟩
abbrev main_v243 : Ref sig .tc := ⟨.hbm, 416, rfl⟩
abbrev main_v244 : Ref sig .tc := ⟨.hbm, 417, rfl⟩
abbrev main_v245 : Ref sig .tc := ⟨.hbm, 418, rfl⟩
abbrev main_call14_cst : Ref sig .tc := ⟨.hbm, 419, rfl⟩
abbrev main_call14_v0 : Ref sig .tc := ⟨.hbm, 420, rfl⟩
abbrev main_v246 : Ref sig .tc := ⟨.hbm, 421, rfl⟩
abbrev main_cst_47 : Ref sig .tc := ⟨.hbm, 422, rfl⟩
abbrev main_v247 : Ref sig .tc := ⟨.hbm, 423, rfl⟩
abbrev main_cst_48 : Ref sig .tc := ⟨.hbm, 424, rfl⟩
abbrev main_v248 : Ref sig .tc := ⟨.hbm, 425, rfl⟩
abbrev main_v249 : Ref sig .tc := ⟨.hbm, 426, rfl⟩
abbrev main_v250 : Ref sig .tc := ⟨.hbm, 427, rfl⟩
abbrev main_cst_49 : Ref sig .tc := ⟨.hbm, 428, rfl⟩
abbrev main_v251 : Ref sig .tc := ⟨.hbm, 429, rfl⟩
abbrev main_v252 : Ref sig .tc := ⟨.hbm, 430, rfl⟩
abbrev main_cst_50 : Ref sig .tc := ⟨.hbm, 431, rfl⟩
abbrev main_call15_v0 : Ref sig .tc := ⟨.hbm, 432, rfl⟩
abbrev main_call15_v1 : Ref sig .tc := ⟨.hbm, 433, rfl⟩
abbrev main_v253 : Ref sig .tc := ⟨.hbm, 434, rfl⟩
abbrev main_v254 : Ref sig .tc := ⟨.hbm, 435, rfl⟩
abbrev main_v255 : Ref sig .tc := ⟨.hbm, 436, rfl⟩
abbrev main_v256 : Ref sig .tc := ⟨.hbm, 437, rfl⟩
abbrev main_v257 : Ref sig .tc := ⟨.hbm, 438, rfl⟩
abbrev main_v258 : Ref sig .tc := ⟨.hbm, 439, rfl⟩
abbrev main_v259 : Ref sig .tc := ⟨.hbm, 440, rfl⟩
abbrev main_v260 : Ref sig .tc := ⟨.hbm, 441, rfl⟩
abbrev main_v261 : Ref sig .tc := ⟨.hbm, 442, rfl⟩
abbrev main_v262 : Ref sig .tc := ⟨.hbm, 443, rfl⟩
abbrev main_v263 : Ref sig .tc := ⟨.hbm, 444, rfl⟩
abbrev main_v264 : Ref sig .tc := ⟨.hbm, 445, rfl⟩
abbrev main_v265 : Ref sig .tc := ⟨.hbm, 446, rfl⟩
abbrev main_v266 : Ref sig .tc := ⟨.hbm, 447, rfl⟩
abbrev main_v267 : Ref sig .tc := ⟨.hbm, 448, rfl⟩
abbrev main_v268 : Ref sig .tc := ⟨.hbm, 449, rfl⟩
abbrev main_v269 : Ref sig .tc := ⟨.hbm, 450, rfl⟩
abbrev main_v270 : Ref sig .tc := ⟨.hbm, 451, rfl⟩
abbrev main_v271 : Ref sig .tc := ⟨.hbm, 452, rfl⟩
abbrev main_v272 : Ref sig .tc := ⟨.hbm, 453, rfl⟩
abbrev main_v273 : Ref sig .tc := ⟨.hbm, 454, rfl⟩
abbrev main_v274 : Ref sig .tc := ⟨.hbm, 455, rfl⟩
abbrev main_v275 : Ref sig .tc := ⟨.hbm, 456, rfl⟩
abbrev main_cst_51 : Ref sig .tc := ⟨.hbm, 457, rfl⟩
abbrev main_v276 : Ref sig .tc := ⟨.hbm, 458, rfl⟩
abbrev main_cst_52 : Ref sig .tc := ⟨.hbm, 459, rfl⟩
abbrev main_v277 : Ref sig .tc := ⟨.hbm, 460, rfl⟩
abbrev main_v278 : Ref sig .tc := ⟨.hbm, 461, rfl⟩
abbrev main_v279 : Ref sig .tc := ⟨.hbm, 462, rfl⟩
abbrev main_v280 : Ref sig .tc := ⟨.hbm, 463, rfl⟩
abbrev main_v281 : Ref sig .tc := ⟨.hbm, 464, rfl⟩
abbrev main_v282 : Ref sig .tc := ⟨.hbm, 465, rfl⟩
abbrev main_cst_53 : Ref sig .tc := ⟨.hbm, 466, rfl⟩
abbrev main_v283 : Ref sig .tc := ⟨.hbm, 467, rfl⟩
abbrev main_v284 : Ref sig .tc := ⟨.hbm, 468, rfl⟩
abbrev main_v285 : Ref sig .tc := ⟨.hbm, 469, rfl⟩
abbrev main_v286 : Ref sig .tc := ⟨.hbm, 470, rfl⟩
abbrev main_v287 : Ref sig .tc := ⟨.hbm, 471, rfl⟩
abbrev main_v288 : Ref sig .tc := ⟨.hbm, 472, rfl⟩
abbrev main_cst_54 : Ref sig .tc := ⟨.hbm, 473, rfl⟩
abbrev main_v289 : Ref sig .tc := ⟨.hbm, 474, rfl⟩

abbrev nD : Nat := 1
abbrev τ : Topo := Topo.v7x

variable {F : FTy → Type} [FloatOps F]
-- ==== Kernel2.lean ====
abbrev S4096x4096 : Shape := ⟨2, ![4096, 4096]⟩
abbrev S4096x128 : Shape := ⟨2, ![4096, 128]⟩
abbrev S4096x1 : Shape := ⟨2, ![4096, 1]⟩
abbrev S128 : Shape := ⟨1, ![128]⟩
abbrev S128x128 : Shape := ⟨2, ![128, 128]⟩
abbrev S1x128 : Shape := ⟨2, ![1, 128]⟩
abbrev S1024x4096 : Shape := ⟨2, ![1024, 4096]⟩
abbrev S4096x1024 : Shape := ⟨2, ![4096, 1024]⟩
abbrev S1024x1 : Shape := ⟨2, ![1024, 1]⟩
abbrev S1024x128 : Shape := ⟨2, ![1024, 128]⟩

abbrev nBuf : Space → Nat
  | .hbm => 15
  | .vmem => 26
  | .smem => 0
  | _ => 0

abbrev bufTy : (tb : Table) → Fin (tcTables nBuf tb) → BufTy
  | .hbm, ⟨0, _⟩ => ⟨S4096x4096, .bf16⟩
  | .hbm, ⟨1, _⟩ => ⟨S4096x128, .bf16⟩
  | .hbm, ⟨2, _⟩ => ⟨S4096x1, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S4096x128, .f32⟩
  | .hbm, ⟨13, _⟩ => ⟨S4096x128, .bf16⟩
  | .hbm, ⟨14, _⟩ => ⟨S4096x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S4096x128, .bf16⟩
  | .local _ .vmem, ⟨5, _⟩ => ⟨S1024x1, .f32⟩
  | .local _ .vmem, ⟨6, _⟩ => ⟨S1024x1, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S4096x128, .f32⟩
  | .local _ .vmem, ⟨11, _⟩ => ⟨S1x128, .f32⟩
  | .local _ .vmem, ⟨12, _⟩ => ⟨S1x128, .f32⟩
  | .local _ .vmem, ⟨13, _⟩ => ⟨S128x128, .f32⟩
  | .local _ .vmem, ⟨14, _⟩ => ⟨S4096x1, .f32⟩
  | .local _ .vmem, ⟨15, _⟩ => ⟨S4096x128, .bf16⟩
  | .local _ .vmem, ⟨16, _⟩ => ⟨S1024x4096, .bf16⟩
  | .local _ .vmem, ⟨17, _⟩ => ⟨S1024x4096, .bf16⟩
  | .local _ .vmem, ⟨18, _⟩ => ⟨S4096x1024, .bf16⟩
  | .local _ .vmem, ⟨19, _⟩ => ⟨S4096x1024, .bf16⟩
  | .local _ .vmem, ⟨20, _⟩ => ⟨S4096x128, .bf16⟩
  | .local _ .vmem, ⟨21, _⟩ => ⟨S1024x1, .f32⟩
  | .local _ .vmem, ⟨22, _⟩ => ⟨S1024x1, .f32⟩
  | .local _ .vmem, ⟨23, _⟩ => ⟨S1x128, .f32⟩
  | .local _ .vmem, ⟨24, _⟩ => ⟨S1024x128, .f32⟩
  | .local _ .vmem, ⟨25, _⟩ => ⟨S1024x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4096x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S4096x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== Kernel2Ideal.lean ====
variable {F : FTy → Type} [FloatOps F] [Named F]
def κ : String → Option EReal := fun
  | "third" => some ((1 / 3 : ℝ) : EReal)
  | _ => none
-- ==== Reference2Ideal.lean ====
abbrev S4096x4096 : Shape := ⟨2, ![4096, 4096]⟩
abbrev S4096x128 : Shape := ⟨2, ![4096, 128]⟩
abbrev S4096x1 : Shape := ⟨2, ![4096, 1]⟩
abbrev S128 : Shape := ⟨1, ![128]⟩
abbrev S128x128 : Shape := ⟨2, ![128, 128]⟩
abbrev S_ : Shape := ⟨0, ![]⟩
abbrev S1x4096 : Shape := ⟨2, ![1, 4096]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x128, .bf16⟩
  | .hbm, ⟨2, _⟩ => ⟨S4096x1, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S4096x4096, .f32⟩
  | .hbm, ⟨9, _⟩ => ⟨S4096x128, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x128, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S_, .i1⟩
  | .hbm, ⟨47, _⟩ => ⟨S_, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S4096x128, .f32⟩
  | .hbm, ⟨53, _⟩ => ⟨S4096x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S4096x128, .f32⟩
  | .hbm, ⟨60, _⟩ => ⟨S4096x128, .f32⟩
  | .hbm, ⟨61, _⟩ => ⟨S1x128, .f32⟩
  | .hbm, ⟨62, _⟩ => ⟨S4096x128, .f32⟩
  | .hbm, ⟨63, _⟩ => ⟨S4096x128, .f32⟩
  | .hbm, ⟨64, _⟩ => ⟨S1x128, .f32⟩
  | .hbm, ⟨65, _⟩ => ⟨S4096x128, .f32⟩
  | .hbm, ⟨66, _⟩ => ⟨S4096x128, .f32⟩
  | .hbm, ⟨67, _⟩ => ⟨S_, .f32⟩
  | .hbm, ⟨68, _⟩ => ⟨S4096x128, .f32⟩
  | .hbm, ⟨69, _⟩ => ⟨S4096x128, .f32⟩
  | .hbm, ⟨70, _⟩ => ⟨S4096x4096, .f32⟩
  | .hbm, ⟨71, _⟩ => ⟨S4096x4096, .f32⟩
  | .hbm, ⟨72, _⟩ => ⟨S1x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S4096x128, .f32⟩
  | .hbm, ⟨77, _⟩ => ⟨S4096x128, .f32⟩
  | .hbm, ⟨78, _⟩ => ⟨S1x128, .f32⟩
  | .hbm, ⟨79, _⟩ => ⟨S4096x128, .f32⟩
  | .hbm, ⟨80, _⟩ => ⟨S4096x128, .f32⟩
  | .hbm, ⟨81, _⟩ => ⟨S_, .f32⟩
  | .hbm, ⟨82, _⟩ => ⟨S4096x128, .f32⟩
  | .hbm, ⟨83, _⟩ => ⟨S4096x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_cst_2 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_cst_3 : Ref sig .tc := ⟨.hbm, 45, rfl⟩
abbrev main_call0_v12 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_2 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_call1_cst : Ref sig .tc := ⟨.hbm, 67, rfl⟩
abbrev main_call1_v0 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call2_cst : Ref sig .tc := ⟨.hbm, 81, rfl⟩
abbrev main_call2_v0 : Ref sig .tc := ⟨.hbm, 82, rfl⟩
abbrev main_v45 : Ref sig .tc := ⟨.hbm, 83, rfl⟩

abbrev nD : Nat := 1
abbrev τ : Topo := Topo.v7x

variable {F : FTy → Type} [FloatOps F]
-- ==== Kernel3.lean ====
abbrev S4096x4096 : Shape := ⟨2, ![4096, 4096]⟩
abbrev S4096x1 : Shape := ⟨2, ![4096, 1]⟩
abbrev S4096x64 : Shape := ⟨2, ![4096, 64]⟩
abbrev S64x128 : Shape := ⟨2, ![64, 128]⟩
abbrev S1x4096 : Shape := ⟨2, ![1, 4096]⟩
abbrev S4096x128 : Shape := ⟨2, ![4096, 128]⟩
abbrev S256x4096 : Shape := ⟨2, ![256, 4096]⟩
abbrev S256x1 : Shape := ⟨2, ![256, 1]⟩
abbrev S256 : Shape := ⟨1, ![256]⟩
abbrev S4096 : Shape := ⟨1, ![4096]⟩

abbrev nBuf : Space → Nat
  | .hbm => 13
  | .vmem => 20
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x64, .f32⟩
  | .hbm, ⟨7, _⟩ => ⟨S64x128, .f32⟩
  | .hbm, ⟨8, _⟩ => ⟨S4096x4096, .bf16⟩
  | .hbm, ⟨9, _⟩ => ⟨S1x4096, .f32⟩
  | .hbm, ⟨10, _⟩ => ⟨S4096x1, .f32⟩
  | .hbm, ⟨11, _⟩ => ⟨S4096x128, .bf16⟩
  | .hbm, ⟨12, _⟩ => ⟨S4096x1, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S4096x64, .f32⟩
  | .local _ .vmem, ⟨13, _⟩ => ⟨S64x128, .f32⟩
  | .local _ .vmem, ⟨14, _⟩ => ⟨S256x4096, .bf16⟩
  | .local _ .vmem, ⟨15, _⟩ => ⟨S256x4096, .bf16⟩
  | .local _ .vmem, ⟨16, _⟩ => ⟨S1x4096, .f32⟩
  | .local _ .vmem, ⟨17, _⟩ => ⟨S4096x1, .f32⟩
  | .local _ .vmem, ⟨18, _⟩ => ⟨S4096x128, .bf16⟩
  | .local _ .vmem, ⟨19, _⟩ => ⟨S4096x1, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c256_i32 : BitVec 32 := 256#32
  let v21 : BitVec 32 := Scalar.muli arg0 c256_i32
  let v22 : Index := Scalar.indexCast v21
  let c0_13 : Index := 0#32
  ![v22.toNat, 0]
def k0_cond2 (i : grid0.Coords) : BitVec 1 :=
  let arg0 : BitVec 32 := BitVec.ofNat 32 (i 0).val
  let c15_i32 : BitVec 32 := 15#32
  let v33 : BitVec 1 := Scalar.cmpi .eq arg0 c15_i32
  let v34 : BitVec 32 := Scalar.extui v33
  let c0_i32_20 : BitVec 32 := 0#32
  let v35 : BitVec 1 := Scalar.cmpi .ne v34 c0_i32_20
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S4096x4096 : Shape := ⟨2, ![4096, 4096]⟩
abbrev S4096x1 : Shape := ⟨2, ![4096, 1]⟩
abbrev S4096x64 : Shape := ⟨2, ![4096, 64]⟩
abbrev S64x128 : Shape := ⟨2, ![64, 128]⟩
abbrev S_ : Shape := ⟨0, ![]⟩
abbrev S4096 : Shape := ⟨1, ![4096]⟩
abbrev S4096x128 : Shape := ⟨2, ![4096, 128]⟩
abbrev S1x4096 : Shape := ⟨2, ![1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x1, .f32⟩
  | .hbm, ⟨4, _⟩ => ⟨S4096x1, .f32⟩
  | .hbm, ⟨5, _⟩ => ⟨S4096x1, .f32⟩
  | .hbm, ⟨6, _⟩ => ⟨S4096x64, .f32⟩
  | .hbm, ⟨7, _⟩ => ⟨S64x128, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .i1⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4096x4096, .bf16⟩
  | .hbm, ⟨46, _⟩ => ⟨S1x4096, .f32⟩
  | .hbm, ⟨47, _⟩ => ⟨S4096x1, .f32⟩
  | .hbm, ⟨48, _⟩ => ⟨S4096x128, .bf16⟩
  | .hbm, ⟨49, _⟩ => ⟨S4096x1, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Proof.Spec.lean ====
/-
  The mathematics of the graph encoder on the extended reals, entry by entry: what both the kernel and the reference
  are shown to compute. Arrays are functions of their coordinates here; nothing in this module is about a program.
-/
module

public import Idealize.ShloMosaic.Lib.Pointwise

@[expose] public section

noncomputable section

namespace Cert.Spec

open Idealize.ShloMosaic

/-- An array of `n` rows and `k` columns, by its entries. -/
abbrev Mat (n k : ℕ) : Type := Fin n → Fin k → EReal

/-- The entries of a two-axis array. -/
abbrev mat {n k : ℕ} {φ : FTy} (x : FVec Ideal ⟨2, ![n, k]⟩ φ) : Mat n k := fun r j => x (ix2 r j)
/-- The entries of a one-axis array. -/
abbrev row {n : ℕ} {φ : FTy} (x : FVec Ideal ⟨1, ![n]⟩ φ) : Fin n → EReal := fun j => x (ix1 j)
/-- The entries of a column. -/
abbrev col {n : ℕ} {φ : FTy} (x : FVec Ideal ⟨2, ![n, 1]⟩ φ) : Fin n → EReal := fun r => x (ix2 r 0)
/-- The entries of a one-row array. -/
abbrev lane {n : ℕ} {φ : FTy} (x : FVec Ideal ⟨2, ![1, n]⟩ φ) : Fin n → EReal := fun j => x (ix2 0 j)

variable {n k l : ℕ}

/-- The inverse square root of a degree, zero where the degree is not positive. -/
def inv (s : EReal) : EReal := if 0 < s then Ideal.rsqrt s else 0

/-- The degree of column `c`. -/
def deg (a : Mat n n) (c : Fin n) : EReal := ∑ r, a r c

/-- Entry `(r, j)` of the product of two arrays. -/
def mm (x : Mat n k) (w : Mat k l) : Mat n l := fun r j => ∑ i, x r i * w i j

/-- The rows of the product scaled by the inverse square roots of the degrees: what a layer aggregates. -/
def pre (a : Mat n n) (x : Mat n k) (w : Mat k l) : Mat n l := fun r j => inv (deg a r) * mm x w r j

/-- A graph convolution: the scaled rows summed with the column's weights, scaled once more, the bias added. -/
def gcn (a : Mat n n) (x : Mat n k) (w : Mat k l) (b : Fin l → EReal) : Mat n l :=
  fun c j => (∑ r, a r c * pre a x w r j) * inv (deg a c) + b j

/-- What one aggregation computes of scaled rows `y`, scales `d` and a bias: a graph convolution is one. -/
def lay (a : Mat n n) (y : Mat n l) (d : Fin n → EReal) (b : Fin l → EReal) : Mat n l :=
  fun c j => (∑ r, a r c * y r j) * d c + b j

/-- `lay` of arrays: adjacency, scaled rows, scales as a column, bias as one row. -/
def layV {φ : FTy} (a : FVec Ideal ⟨2, ![n, n]⟩ φ) (y : FVec Ideal ⟨2, ![n, l]⟩ φ) (d : FVec Ideal ⟨2, ![n, 1]⟩ .f32) (b : FVec Ideal ⟨2, ![1, l]⟩ .f32) :
    FVec Ideal ⟨2, ![n, l]⟩ .f32 := fun i => lay (mat a) (mat y) (col d) (lane b) (i 0) (i 1)

/-- `layV` at an index from the entries it reads. -/
theorem layV_of {φ : FTy} {a : FVec Ideal ⟨2, ![n, n]⟩ φ} {y : FVec Ideal ⟨2, ![n, l]⟩ φ} {d : FVec Ideal ⟨2, ![n, 1]⟩ .f32} {b : FVec Ideal ⟨2, ![1, l]⟩ .f32}
    (i : (⟨2, ![n, l]⟩ : Shape).Idx) {A Y : Fin n → EReal} {D B : EReal} (hA : ∀ r, A r = a (ix2 r (i 0))) (hY : ∀ r, Y r = y (ix2 r (i 1)))
    (hD : D = d (ix2 (i 0) 0)) (hB : B = b (ix2 0 (i 1))) : (∑ r, A r * Y r) * D + B = layV a y d b i := by
  subst hD hB
  simp only [hA, hY]
  rfl

theorem gcn_eq_lay (a : Mat n n) (x : Mat n k) (w : Mat k l) (b : Fin l → EReal) :
    gcn a x w b = lay a (pre a x w) (fun c => inv (deg a c)) b := rfl

/-- The number of rows, as the programs write it. -/
def rows : EReal := Ideal.ofBits .f32 0x45800000#32
/-- The small constant added to a variance. -/
def eps : EReal := Ideal.ofBits .f32 0x3727C5AC#32
/-- The small constant a norm is bounded below by. -/
def tiny : EReal := Ideal.ofBits .f32 0x2B8CBCCC#32

/-- The mean of column `j`. -/
def mean (h : Mat n k) (j : Fin k) : EReal := Ideal.div (∑ r, h r j) rows
/-- An entry less its column's mean. -/
def cen (h : Mat n k) : Mat n k := fun r j => h r j - mean h j
/-- The variance of column `j`. -/
def var (h : Mat n k) (j : Fin k) : EReal := Ideal.div (∑ r, cen h r j * cen h r j) rows
/-- Batch normalisation with gain `g` and offset `b`, then the positive part. -/
def bnr (h : Mat n k) (g b : Fin k → EReal) : Mat n k :=
  fun r j => max (cen h r j * Ideal.rsqrt (var h j + eps) * g j + b j) 0

/-- What lies between two aggregations: batch normalisation, positive part, product, scaling. -/
def mid (h : Mat n k) (g b : Fin k → EReal) (w : Mat k l) (d : Fin n → EReal) : Mat n l := fun r j => d r * mm (bnr h g b) w r j

/-- `mid` of arrays. -/
def midV (φ : FTy) (h : FVec Ideal ⟨2, ![n, k]⟩ .f32) (g b : FVec Ideal ⟨2, ![1, k]⟩ .f32) (w : FVec Ideal ⟨2, ![k, l]⟩ .f32) (d : FVec Ideal ⟨2, ![n, 1]⟩ .f32) :
    FVec Ideal ⟨2, ![n, l]⟩ φ := fun i => mid (mat h) (lane g) (lane b) (mat w) (col d) (i 0) (i 1)

/-- A choice of columns. -/
def pick {p : ℕ} (e : Fin p → Fin k) (x : Mat n k) : Mat n p := fun r j => x r (e j)
/-- The left and the right half of two arrays side by side. -/
def lef : Fin 128 → Fin 256 := fun j => ⟨j.val, by omega⟩
@[inherit_doc lef] def rig : Fin 128 → Fin 256 := fun j => ⟨128 + j.val, by omega⟩
@[inherit_doc lef] def lef' : Fin 64 → Fin 128 := fun j => ⟨j.val, by omega⟩
@[inherit_doc lef] def rig' : Fin 64 → Fin 128 := fun j => ⟨64 + j.val, by omega⟩

/-- Two graph convolutions with a batch normalisation between. -/
def enc {p : ℕ} (a : Mat n n) (x : Mat n k) (w1 : Mat k l) (b1 g b : Fin l → EReal) (w2 : Mat l p) (b2 : Fin p → EReal) : Mat n p :=
  gcn a (bnr (gcn a x w1 b1) g b) w2 b2

/-- The neighbourhood average of the rows of `h`, weighted by the rows of `a`. -/
def avg (a : Mat n n) (h : Mat n k) : Mat n k := fun r j => Ideal.div (∑ c, a r c * h c j) (∑ c, a r c)
/-- The row of `v` divided by its norm (bounded below), through the logistic function. -/
def squash (v : Mat n k) : Mat n k := fun r j =>
  Ideal.logistic (Ideal.div (v r j) (max (Ideal.sqrt (∑ i, v r i * v r i)) tiny))
/-- The bilinear score of a row. -/
def bil (h : Mat n k) (w : Mat k k) (g : Mat n k) (b : EReal) (r : Fin n) : EReal := (∑ j, mm h w r j * g r j) + b
/-- The attention score of a row. -/
def score {p : ℕ} (h : Mat n k) (w : Mat k p) (b v : Fin p → EReal) (r : Fin n) : EReal :=
  ∑ j, Ideal.tanh (mm h w r j + b j) * v j

/-- The neighbourhood averages from sums already at hand, squashed: `s` holds the row sums. -/
def gate {φ : FTy} (a : FVec Ideal ⟨2, ![n, n]⟩ φ) (t : FVec Ideal ⟨2, ![n, k]⟩ .f32) (s : FVec Ideal ⟨2, ![n, 1]⟩ .f32) : Mat n k :=
  squash fun r j => Ideal.div (∑ c, a (ix2 r c) * t (ix2 c j)) (s (ix2 r 0))

theorem squash_congr {m : ℕ} {u : Mat n k} {v : Mat m k} {r : Fin n} {i : Fin m} (h : ∀ j, u r j = v i j) (j : Fin k) : squash u r j = squash v i j := by
  unfold squash
  simp only [h]

theorem score_congr {m p : ℕ} {u : Mat n k} {v : Mat m k} {r : Fin n} {i : Fin m} (h : ∀ j, u r j = v i j) (w : Mat k p) (b c : Fin p → EReal) :
    score u w b c r = score v w b c i := by
  unfold score mm
  simp only [h]

/-- The largest of three scores. -/
def top3 (x y z : EReal) : EReal := max (max x y) z
/-- The sum of three shifted exponentials. -/
def sum3 (x y z : EReal) : EReal :=
  Ideal.exp (x - top3 x y z) + Ideal.exp (y - top3 x y z) + Ideal.exp (z - top3 x y z)
/-- The share of a score `u` among the three. -/
def share (u x y z : EReal) : EReal := Ideal.div (Ideal.exp (u - top3 x y z)) (sum3 x y z)
/-- Three rows mixed by the shares of their scores. -/
def fuse (x y z u v w : EReal) : EReal := share x x y z * u + share y x y z * v + share z x y z * w

/-- The first result: the three views' rows mixed by their attention. -/
def mix {p : ℕ} (x y z : Mat n k) (w : Mat k p) (b v : Fin p → EReal) : Mat n k := fun r j =>
  fuse (score x w b v r) (score y w b v r) (score z w b v r) (x r j) (y r j) (z r j)
theorem mix_congr {m p : ℕ} {x y z : Mat n k} {x' y' z' : Mat m k} {r : Fin n} {i : Fin m} (hx : ∀ j, x r j = x' i j) (hy : ∀ j, y r j = y' i j)
    (hz : ∀ j, z r j = z' i j) (w : Mat k p) (b v : Fin p → EReal) (j : Fin k) : mix x y z w b v r j = mix x' y' z' w b v i j := by
  unfold mix
  rw [score_congr hx, score_congr hy, score_congr hz, hx, hy, hz]

theorem mix_at {m p : ℕ} {x y z : Mat n k} {x' y' z' : Mat m k} {r : Fin n} {i : Fin m} {j j' : Fin k} (hx : ∀ j, x r j = x' i j) (hy : ∀ j, y r j = y' i j)
    (hz : ∀ j, z r j = z' i j) (hj : j' = j) (w : Mat k p) (b v : Fin p → EReal) : mix x y z w b v r j = mix x' y' z' w b v i j' :=
  hj ▸ mix_congr hx hy hz w b v j

/-- A column of the third result: the scores of the rows of `h` against the squashed neighbourhood averages of `t`. -/
def judge (a : Mat n n) (t h : Mat n k) (w : Mat k k) (b : EReal) : Fin n → EReal := bil h w (squash (avg a t)) b

/-! ### The facts the two programs' forms differ by -/

theorem sqrt_top : Ideal.sqrt ⊤ = ⊤ := rfl
theorem rsqrt_top : Ideal.rsqrt ⊤ = 0 := rfl
theorem sqrt_coe {r : ℝ} (h : 0 < r) : Ideal.sqrt (r : EReal) = ((Real.sqrt r : ℝ) : EReal) := by
  show (if r < 0 then ⊥ else ((Real.sqrt r : ℝ) : EReal)) = _
  rw [if_neg h.not_gt]
theorem rsqrt_coe {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg h.not_gt, if_neg h.ne']

/-- Off the nonpositive numbers, dividing by the square root is multiplying by the inverse square root. -/
theorem div_sqrt {s : EReal} (h : 0 < s) (x : EReal) : Ideal.div x (Ideal.sqrt s) = x * Ideal.rsqrt s := by
  induction s with
  | bot => simp at h
  | top => rw [sqrt_top, rsqrt_top, Ideal.div, if_neg (by simp), EReal.inv_top]
  | coe r =>
    have hr : 0 < r := by exact_mod_cast h
    have hs : Real.sqrt r ≠ 0 := (Real.sqrt_pos.mpr hr).ne'
    rw [sqrt_coe hr, rsqrt_coe hr, Ideal.div, if_neg (by exact_mod_cast hs), EReal.coe_inv]

theorem inv_eq (s : EReal) : (if 0 < s then Ideal.div 1 (Ideal.sqrt s) else 0) = inv s := by
  unfold inv
  split_ifs with h
  · rw [div_sqrt h, one_mul]
  · rfl

/-- The inverse square root of a degree is a nonnegative real. -/
theorem inv_real (s : EReal) : ∃ t : ℝ, 0 ≤ t ∧ inv s = (t : EReal) := by
  unfold inv
  split_ifs with h
  · induction s with
    | bot => simp at h
    | top => exact ⟨0, le_rfl, by rw [rsqrt_top]; rfl⟩
    | coe r =>
      have hr : 0 < r := by exact_mod_cast h
      exact ⟨(Real.sqrt r)⁻¹, _root_.inv_nonneg.mpr (Real.sqrt_nonneg r), rsqrt_coe hr⟩
  · exact ⟨0, le_rfl, rfl⟩

theorem inv_nonneg (s : EReal) : 0 ≤ inv s := by
  obtain ⟨t, ht, h⟩ := inv_real s
  rw [h]; exact_mod_cast ht

theorem inv_ne_top (s : EReal) : inv s ≠ ⊤ := by
  obtain ⟨t, -, h⟩ := inv_real s
  rw [h]; exact EReal.coe_ne_top _

/-- A nonnegative factor that is not infinite comes out of a sum. -/
theorem sum_mul_of_nonneg {ι : Type} (s : Finset ι) (f : ι → EReal) {d : EReal} (h0 : 0 ≤ d) (h1 : d ≠ ⊤) :
    (∑ i ∈ s, f i) * d = ∑ i ∈ s, f i * d := by
  classical
  induction s using Finset.induction_on with
  | empty => simp
  | insert i s hi ih => rw [Finset.sum_insert hi, Finset.sum_insert hi, EReal.right_distrib_of_nonneg_of_ne_top h0 h1, ih]

/-- The reference's form of a graph convolution: the weights scaled on both sides first. -/
theorem gcn_eq (a : Mat n n) (x : Mat n k) (w : Mat k l) (b : Fin l → EReal) (c : Fin n) (j : Fin l) :
    (∑ r, inv (deg a r) * a r c * inv (deg a c) * mm x w r j) + b j = gcn a x w b c j := by
  unfold gcn pre
  rw [sum_mul_of_nonneg _ _ (inv_nonneg _) (inv_ne_top _)]
  congr 1
  refine Finset.sum_congr rfl fun r _ => ?_
  ac_rfl

theorem rows_eq : rows = ((4096 : ℝ) : EReal) := by
  unfold rows; simp [Ideal.ofBits, Ideal.ieee]; rw [← EReal.coe_mul]; norm_num

theorem eps_pos : 0 < eps := by
  unfold eps; simp [Ideal.ofBits, Ideal.ieee]; rw [← EReal.coe_mul]; exact_mod_cast (by norm_num)

theorem mul_self_nonneg' (x : EReal) : 0 ≤ x * x := by
  rcases le_total 0 x with h | h
  · exact mul_nonneg h h
  · have h' : 0 ≤ -x := by simpa using EReal.neg_le_neg_iff.mpr h
    simpa using mul_nonneg h' h'

theorem var_nonneg (h : Mat n k) (j : Fin k) : 0 ≤ var h j := by
  unfold var
  have hs : 0 ≤ ∑ r, cen h r j * cen h r j := Finset.sum_nonneg fun r _ => mul_self_nonneg' _
  rw [rows_eq, Ideal.div, if_neg (by exact_mod_cast (by norm_num : (4096 : ℝ) ≠ 0))]
  refine mul_nonneg hs ?_
  rw [← EReal.coe_inv]; exact_mod_cast (by norm_num : (0 : ℝ) ≤ (4096)⁻¹)

/-- The reference's form of the batch normalisation: a division by the square root. -/
theorem bnr_eq (h : Mat n k) (g b : Fin k → EReal) (r : Fin n) (j : Fin k) :
    max (Ideal.div (cen h r j) (Ideal.sqrt (var h j + eps)) * g j + b j) 0 = bnr h g b r j := by
  unfold bnr
  rw [div_sqrt (lt_of_lt_of_le eps_pos (le_add_of_nonneg_left (var_nonneg h j)))]

/-- The reference's form of the logistic function. -/
theorem logistic_eq (x : EReal) : Ideal.div 1 (1 + Ideal.exp (-x)) = Ideal.logistic x := rfl

end Cert.Spec

end
-- ==== Proof.Entry.lean ====
/-
  What the host's own operations leave in the arrays that the calls read: reshaped biases and scales, halves side by
  side, columns cut out.
-/
module

public import proofs.«01_k».proof.Proof.Spec
public import proofs.«01_k».proof.Proof.Gen.KernelIdeal.Frame.Fold0
public import Idealize.ShloMosaic.Lib.Claim

@[expose] public section

set_option maxRecDepth 16384

noncomputable section

namespace Cert.KernelSide

open Cert.KernelIdeal Cert.KernelIdeal.Gen Cert.Spec Idealize.ShloMosaic Idealize.ShloMosaic.TcCoe

variable (m : (ℓ : Loc nD τ sig) → Buf (Elt Ideal) ℓ) (ρ : Dev nD → PrngReg)

/-- A bias or a gain, laid out as one row. -/
theorem row_gain (c : Dev nD) : lane (φ := .f32) (V1 m ρ c main_v0) = row (φ := .f32) (m ((c.tc : Thread nD τ).loc main_arg13)) := by
  funext j
  dsimp only [V1, V3, V6, V8, W1, W3, W6, W8, W10]
  entry_read
  pointwise
theorem row_offset (c : Dev nD) : lane (φ := .f32) (V1 m ρ c main_v1) = row (φ := .f32) (m ((c.tc : Thread nD τ).loc main_arg14)) := by
  funext j
  dsimp only [V1, V3, V6, V8, W1, W3, W6, W8, W10]
  entry_read
  pointwise
theorem row_b1 (c : Dev nD) : lane (φ := .f32) (V1 m ρ c main_v2) = row (φ := .f32) (m ((c.tc : Thread nD τ).loc main_arg6)) := by
  funext j
  dsimp only [V1, V3, V6, V8, W1, W3, W6, W8, W10]
  entry_read
  pointwise
theorem row_b2 (c : Dev nD) : lane (φ := .f32) (V1 m ρ c main_v3) = row (φ := .f32) (m ((c.tc : Thread nD τ).loc main_arg8)) := by
  funext j
  dsimp only [V1, V3, V6, V8, W1, W3, W6, W8, W10]
  entry_read
  pointwise
theorem row_ba (c : Dev nD) : lane (φ := .f32) (V1 m ρ c main_v6) = row (φ := .f32) (m ((c.tc : Thread nD τ).loc main_arg16)) := by
  funext j
  dsimp only [V1, V3, V6, V8, W1, W3, W6, W8, W10]
  entry_read
  pointwise
theorem row_wa (c : Dev nD) : lane (φ := .f32) (V1 m ρ c main_v7) = col (φ := .f32) (m ((c.tc : Thread nD τ).loc main_arg17)) := by
  funext j
  dsimp only [V1, V3, V6, V8, W1, W3, W6, W8, W10]
  entry_read
  pointwise
theorem one_bb (c : Dev nD) : V1 m ρ c main_v8 (ix2 0 0) = m ((c.tc : Thread nD τ).loc main_arg19) (ix1 0) := by
  dsimp only [V1, V3, V6, V8, W1, W3, W6, W8, W10]
  entry_read
  pointwise
theorem mat_wb (c : Dev nD) (i j : Fin 64) : V1 m ρ c main_v9 (ix2 i j) = m ((c.tc : Thread nD τ).loc main_arg18) (ix3 0 i j) := by
  dsimp only [V1, V3, V6, V8, W1, W3, W6, W8, W10]
  entry_read
  pointwise

/-- The scales as columns. -/
theorem col_f (c : Dev nD) (r : Fin 4096) : V3 m ρ c main_v11 (ix2 r 0) = W2 m ρ c (Proc.devRef .tc main_v10_0) (ix2 0 r) := by
  dsimp only [V1, V3, V6, V8, W1, W3, W6, W8, W10]
  entry_read
  pointwise
theorem col_t (c : Dev nD) (r : Fin 4096) : V3 m ρ c main_v12 (ix2 r 0) = W2 m ρ c (Proc.devRef .tc main_v10_1) (ix2 0 r) := by
  dsimp only [V1, V3, V6, V8, W1, W3, W6, W8, W10]
  entry_read
  pointwise
theorem col_i (c : Dev nD) (r : Fin 4096) : V3 m ρ c main_v13 (ix2 r 0) = W2 m ρ c (Proc.devRef .tc main_v10_2) (ix2 0 r) := by
  dsimp only [V1, V3, V6, V8, W1, W3, W6, W8, W10]
  entry_read
  pointwise
/-- A bias twice, side by side. -/
theorem twice_b1 (c : Dev nD) (j : Fin 128) : V3 m ρ c main_v14 (ix2 0 (lef j)) = W2 m ρ c (Proc.devRef .tc main_v2) (ix2 0 j)
    ∧ V3 m ρ c main_v14 (ix2 0 (rig j)) = W2 m ρ c (Proc.devRef .tc main_v2) (ix2 0 j) := by
  dsimp only [V1, V3, V6, V8, W1, W3, W6, W8, W10]
  entry_read
  unfold lef rig
  constructor <;> pointwise
theorem twice_b2 (c : Dev nD) (j : Fin 64) : V6 m ρ c main_v17 (ix2 0 (lef' j)) = W5 m ρ c (Proc.devRef .tc main_v3) (ix2 0 j)
    ∧ V6 m ρ c main_v17 (ix2 0 (rig' j)) = W5 m ρ c (Proc.devRef .tc main_v3) (ix2 0 j) := by
  dsimp only [V1, V3, V6, V8, W1, W3, W6, W8, W10]
  entry_read
  unfold lef' rig'
  constructor <;> pointwise
/-- The two halves of the second view. -/
theorem half_t (c : Dev nD) (r : Fin 4096) (j : Fin 64) : V8 m ρ c main_v19 (ix2 r j) = W7 m ρ c (Proc.devRef .tc main_v18_1) (ix2 r (lef' j)) := by
  dsimp only [V1, V3, V6, V8, W1, W3, W6, W8, W10]
  entry_read
  unfold lef'
  pointwise
theorem half_ta (c : Dev nD) (r : Fin 4096) (j : Fin 64) : V8 m ρ c main_v20 (ix2 r j) = W7 m ρ c (Proc.devRef .tc main_v18_1) (ix2 r (rig' j)) := by
  dsimp only [V1, V3, V6, V8, W1, W3, W6, W8, W10]
  entry_read
  unfold rig'
  pointwise
/-- The two columns of scores side by side. -/
theorem cols_ret (c : Dev nD) (r : Fin 4096) : W10 m ρ c (Proc.devRef .tc main_v22) (ix2 r 0) = W9 m ρ c (Proc.devRef .tc main_v21_0) (ix2 r 0)
    ∧ W10 m ρ c (Proc.devRef .tc main_v22) (ix2 r 1) = W9 m ρ c (Proc.devRef .tc main_v21_1) (ix2 r 0) := by
  dsimp only [V1, V3, V6, V8, W1, W3, W6, W8, W10]
  entry_read
  constructor <;> pointwise

end Cert.KernelSide

end
-- ==== Proof.Degree.lean ====
/-
  The degree call, point by point: what each of its output buffers holds after a grid point.
-/
module

public import proofs.«01_k».proof.Proof.Spec
public import proofs.«01_k».proof.Proof.Gen.KernelIdeal.Frame.Region0
public import Idealize.ShloMosaic.Lib.Pipeline.ValueKit

@[expose] public section

set_option maxRecDepth 16384

noncomputable section

namespace Cert.KernelSide

open Cert.KernelIdeal Cert.KernelIdeal.Gen Cert.Spec Idealize.ShloMosaic Idealize.ShloMosaic.TcCoe

variable (V : (c : Dev nD) → (b : Ref sig .tc) → Buf (Elt Ideal) ((c : Thread nD τ).loc b))

/-- The point before. -/
theorem before_lt (t : Fin cfg0.N) : t.val - 1 < cfg0.N := Nat.lt_of_le_of_lt (Nat.sub_le _ _) t.isLt

/-- What a point adds to the running column sums: the column sums of its block of rows. -/
theorem k0_pay17_apply (x : Vec Ideal S128x4096 .f32) (acc : Vec Ideal S1x4096 .f32) (j : Fin 4096) :
    k0_pay17 x acc (ix2 0 j) = acc (ix2 0 j) + ∑ r : Fin 128, x (ix2 r j) := by
  pointwise [k0_pay17]
theorem k0_pay14_apply (j : Fin 4096) : k0_pay14 (F := Ideal) (ix2 0 j) = 0 := by
  pointwise [k0_pay14]
/-- What the last point makes of the sums: their inverse square roots. -/
theorem k0_pay5_apply (s : Vec Ideal S1x4096 .f32) (j : Fin 4096) : k0_pay5 s (ix2 0 j) = Spec.inv (s (ix2 0 j)) := by
  unfold Spec.inv
  pointwise [k0_pay5]
/-- The row sums of a block. -/
theorem k0_pay13_apply (x : Vec Ideal S128x4096 .f32) (r : Fin 128) : k0_pay13 x (ix2 r 0) = ∑ j : Fin 4096, x (ix2 r j) := by
  pointwise [k0_pay13]
/-- The product with the first weight, scaled. -/
theorem k0_pay2_apply (w : Vec Ideal S128x128 .f32) (x : Vec Ideal S4096x128 .f32) (d : Vec Ideal S1x4096 .f32) (r : Fin 4096) (j : Fin 128) :
    k0_pay2 (k0_pay8 w x) d (ix2 r j) = d (ix2 0 r) * mm (mat (φ := .f32) x) (mat (φ := .f32) w) r j := by
  unfold mm
  pointwise [k0_pay2, k0_pay8]
/-- Two products with the first weight, scaled, side by side. -/
theorem k0_pay3_apply (w : Vec Ideal S128x128 .f32) (x x' : Vec Ideal S4096x128 .f32) (d : Vec Ideal S1x4096 .f32) (r : Fin 4096) (j : Fin 128) :
    k0_pay3 (k0_pay8 w x) (k0_pay9 w x') d (ix2 r (lef j)) = d (ix2 0 r) * mm (mat (φ := .f32) x) (mat (φ := .f32) w) r j
      ∧ k0_pay3 (k0_pay8 w x) (k0_pay9 w x') d (ix2 r (rig j)) = d (ix2 0 r) * mm (mat (φ := .f32) x') (mat (φ := .f32) w) r j := by
  unfold mm
  constructor
  · unfold lef
    pointwise [k0_pay3, k0_pay8]
  · unfold rig
    pointwise [k0_pay3, k0_pay9]

theorem sum_first_f (c : Dev nD) (t : Fin cfg0.N) (h0 : t.val % 32 = 0) (h1 : ¬t.val % 32 = 31) :
    (outsAt0 V c t.val t.isLt).1 = k0_pay17 (iblk0 V c 0 t) (k0_pay14 (F := Ideal)) := by
  refine (congrArg (fun p => p.1) (outsAt0_A V c t h0 h1)).trans ?_
  dsimp only
  frame_out

theorem sum_next_f (c : Dev nD) (t : Fin cfg0.N) (h0 : ¬t.val % 32 = 0) (h1 : ¬t.val % 32 = 31) :
    (outsAt0 V c t.val t.isLt).1 = k0_pay17 (iblk0 V c 0 t) (outsAt0 V c (t.val - 1) (before_lt t)).1 := by
  refine (congrArg (fun p => p.1) (outsAt0_B V c t h0 h1)).trans ?_
  dsimp only
  frame_out

theorem sum_last_f (c : Dev nD) (t : Fin cfg0.N) (h0 : ¬t.val % 32 = 0) (h1 : t.val % 32 = 31) :
    (outsAt0 V c t.val t.isLt).1 = k0_pay5 (k0_pay17 (iblk0 V c 0 t) (outsAt0 V c (t.val - 1) (before_lt t)).1) := by
  refine (congrArg (fun p => p.1) (outsAt0_C V c t h0 h1)).trans ?_
  dsimp only
  frame_out

theorem sum_first_t (c : Dev nD) (t : Fin cfg0.N) (h0 : t.val % 32 = 0) (h1 : ¬t.val % 32 = 31) :
    (outsAt0 V c t.val t.isLt).2.1 = k0_pay17 (iblk0 V c 1 t) (k0_pay14 (F := Ideal)) := by
  refine (congrArg (fun p => p.2.1) (outsAt0_A V c t h0 h1)).trans ?_
  dsimp only
  frame_out
  rfl

theorem sum_next_t (c : Dev nD) (t : Fin cfg0.N) (h0 : ¬t.val % 32 = 0) (h1 : ¬t.val % 32 = 31) :
    (outsAt0 V c t.val t.isLt).2.1 = k0_pay17 (iblk0 V c 1 t) (outsAt0 V c (t.val - 1) (before_lt t)).2.1 := by
  refine (congrArg (fun p => p.2.1) (outsAt0_B V c t h0 h1)).trans ?_
  dsimp only
  frame_out
  rfl

theorem sum_last_t (c : Dev nD) (t : Fin cfg0.N) (h0 : ¬t.val % 32 = 0) (h1 : t.val % 32 = 31) :
    (outsAt0 V c t.val t.isLt).2.1 = k0_pay5 (k0_pay17 (iblk0 V c 1 t) (outsAt0 V c (t.val - 1) (before_lt t)).2.1) := by
  refine (congrArg (fun p => p.2.1) (outsAt0_C V c t h0 h1)).trans ?_
  dsimp only
  frame_out
  rfl

theorem sum_first_i (c : Dev nD) (t : Fin cfg0.N) (h0 : t.val % 32 = 0) (h1 : ¬t.val % 32 = 31) :
    (outsAt0 V c t.val t.isLt).2.2.1 = k0_pay17 (iblk0 V c 2 t) (k0_pay14 (F := Ideal)) := by
  refine (congrArg (fun p => p.2.2.1) (outsAt0_A V c t h0 h1)).trans ?_
  dsimp only
  frame_out
  rfl

theorem sum_next_i (c : Dev nD) (t : Fin cfg0.N) (h0 : ¬t.val % 32 = 0) (h1 : ¬t.val % 32 = 31) :
    (outsAt0 V c t.val t.isLt).2.2.1 = k0_pay17 (iblk0 V c 2 t) (outsAt0 V c (t.val - 1) (before_lt t)).2.2.1 := by
  refine (congrArg (fun p => p.2.2.1) (outsAt0_B V c t h0 h1)).trans ?_
  dsimp only
  frame_out
  rfl

theorem sum_last_i (c : Dev nD) (t : Fin cfg0.N) (h0 : ¬t.val % 32 = 0) (h1 : t.val % 32 = 31) :
    (outsAt0 V c t.val t.isLt).2.2.1 = k0_pay5 (k0_pay17 (iblk0 V c 2 t) (outsAt0 V c (t.val - 1) (before_lt t)).2.2.1) := by
  refine (congrArg (fun p => p.2.2.1) (outsAt0_C V c t h0 h1)).trans ?_
  dsimp only
  frame_out
  rfl

theorem every_9 (c : Dev nD) (t : Fin cfg0.N) : (outsAt0 V c t.val t.isLt).2.2.2.1 = k0_pay13 (iblk0 V c 1 t) := by
  by_cases h0 : t.val % 32 = 0
  · refine (congrArg (fun p => p.2.2.2.1) (outsAt0_A V c t h0 (by omega))).trans ?_
    dsimp only
    frame_out
  · by_cases h1 : t.val % 32 = 31
    · refine (congrArg (fun p => p.2.2.2.1) (outsAt0_C V c t h0 h1)).trans ?_
      dsimp only
      frame_out
    · refine (congrArg (fun p => p.2.2.2.1) (outsAt0_B V c t h0 h1)).trans ?_
      dsimp only
      frame_out

theorem every_10 (c : Dev nD) (t : Fin cfg0.N) : (outsAt0 V c t.val t.isLt).2.2.2.2.1 = k0_pay10 (iblk0 V c 0 t) := by
  by_cases h0 : t.val % 32 = 0
  · refine (congrArg (fun p => p.2.2.2.2.1) (outsAt0_A V c t h0 (by omega))).trans ?_
    dsimp only
    frame_out
  · by_cases h1 : t.val % 32 = 31
    · refine (congrArg (fun p => p.2.2.2.2.1) (outsAt0_C V c t h0 h1)).trans ?_
      dsimp only
      frame_out
    · refine (congrArg (fun p => p.2.2.2.2.1) (outsAt0_B V c t h0 h1)).trans ?_
      dsimp only
      frame_out

theorem every_11 (c : Dev nD) (t : Fin cfg0.N) : (outsAt0 V c t.val t.isLt).2.2.2.2.2.1 = k0_pay11 (iblk0 V c 1 t) := by
  by_cases h0 : t.val % 32 = 0
  · refine (congrArg (fun p => p.2.2.2.2.2.1) (outsAt0_A V c t h0 (by omega))).trans ?_
    dsimp only
    frame_out
  · by_cases h1 : t.val % 32 = 31
    · refine (congrArg (fun p => p.2.2.2.2.2.1) (outsAt0_C V c t h0 h1)).trans ?_
      dsimp only
      frame_out
    · refine (congrArg (fun p => p.2.2.2.2.2.1) (outsAt0_B V c t h0 h1)).trans ?_
      dsimp only
      frame_out

theorem every_12 (c : Dev nD) (t : Fin cfg0.N) : (outsAt0 V c t.val t.isLt).2.2.2.2.2.2.1 = k0_pay12 (iblk0 V c 2 t) := by
  by_cases h0 : t.val % 32 = 0
  · refine (congrArg (fun p => p.2.2.2.2.2.2.1) (outsAt0_A V c t h0 (by omega))).trans ?_
    dsimp only
    frame_out
  · by_cases h1 : t.val % 32 = 31
    · refine (congrArg (fun p => p.2.2.2.2.2.2.1) (outsAt0_C V c t h0 h1)).trans ?_
      dsimp only
      frame_out
    · refine (congrArg (fun p => p.2.2.2.2.2.2.1) (outsAt0_B V c t h0 h1)).trans ?_
      dsimp only
      frame_out

theorem last_13 (c : Dev nD) (t : Fin cfg0.N) (h0 : ¬t.val % 32 = 0) (h1 : t.val % 32 = 31) :
    (outsAt0 V c t.val t.isLt).2.2.2.2.2.2.2.1 = k0_pay2 (k0_pay8 (iblk0 V c 5 t) (iblk0 V c 3 t)) (outsAt0 V c t.val t.isLt).1 := by
  rw [sum_last_f V c t h0 h1]
  refine (congrArg (fun p => p.2.2.2.2.2.2.2.1) (outsAt0_C V c t h0 h1)).trans ?_
  dsimp only
  frame_out

theorem last_14 (c : Dev nD) (t : Fin cfg0.N) (h0 : ¬t.val % 32 = 0) (h1 : t.val % 32 = 31) :
    (outsAt0 V c t.val t.isLt).2.2.2.2.2.2.2.2.1 = k0_pay3 (k0_pay8 (iblk0 V c 5 t) (iblk0 V c 3 t)) (k0_pay9 (iblk0 V c 5 t) (iblk0 V c 4 t)) (outsAt0 V c t.val t.isLt).2.1 := by
  rw [sum_last_t V c t h0 h1]
  refine (congrArg (fun p => p.2.2.2.2.2.2.2.2.1) (outsAt0_C V c t h0 h1)).trans ?_
  dsimp only
  frame_out
  rfl

theorem last_15 (c : Dev nD) (t : Fin cfg0.N) (h0 : ¬t.val % 32 = 0) (h1 : t.val % 32 = 31) :
    (outsAt0 V c t.val t.isLt).2.2.2.2.2.2.2.2.2 = k0_pay2 (k0_pay8 (iblk0 V c 5 t) (iblk0 V c 3 t)) (outsAt0 V c t.val t.isLt).2.2.1 := by
  rw [sum_last_i V c t h0 h1]
  refine (congrArg (fun p => p.2.2.2.2.2.2.2.2.2) (outsAt0_C V c t h0 h1)).trans ?_
  dsimp only
  frame_out
  rfl

end Cert.KernelSide

end
-- ==== Proof.Sums.lean ====
/-
  The degree call, array by array: what it leaves in the ten arrays it writes, over the contents it is entered with.
-/
module

public import proofs.«01_k».proof.Proof.Degree

@[expose] public section

set_option maxRecDepth 16384

noncomputable section

namespace Cert.KernelSide

open Cert.KernelIdeal Cert.KernelIdeal.Gen Cert.Spec Idealize.ShloMosaic Idealize.ShloMosaic.TcCoe

variable (V : (c : Dev nD) → (b : Ref sig .tc) → Buf (Elt Ideal) ((c : Thread nD τ).loc b))

/-- A quantity that starts with the first term, gains a term at each point, and is passed through `g` at the last one. -/
theorem gather {N : ℕ} (hN : N = 32) (f : (n : ℕ) → n < N → EReal) (u : Fin N → EReal) (g : EReal → EReal)
    (h0 : ∀ t : Fin N, t.val % 32 = 0 → ¬t.val % 32 = 31 → f t.val t.isLt = 0 + u t)
    (hs : ∀ t : Fin N, ¬t.val % 32 = 0 → ¬t.val % 32 = 31 → f t.val t.isLt = f (t.val - 1) (Nat.lt_of_le_of_lt (Nat.sub_le _ _) t.isLt) + u t)
    (hl : ∀ t : Fin N, ¬t.val % 32 = 0 → t.val % 32 = 31 → f t.val t.isLt = g (f (t.val - 1) (Nat.lt_of_le_of_lt (Nat.sub_le _ _) t.isLt) + u t))
    (t : Fin N) (ht : t.val % 32 = 31) : f t.val t.isLt = g (∑ p, u p) := by
  subst hN
  have key : ∀ (n : ℕ) (h : n < 31), f n (by omega) = ∑ p : Fin (n + 1), u ⟨p.val, by omega⟩ := by
    intro n
    induction n with
    | zero => exact fun h => (h0 ⟨0, by omega⟩ rfl (by dsimp only; omega)).trans (by simp)
    | succ n ih =>
      intro h
      refine (hs ⟨n + 1, by omega⟩ (by dsimp only; omega) (by dsimp only; omega)).trans ?_
      rw [Fin.sum_univ_castSucc]
      exact congrArg (· + u ⟨n + 1, by omega⟩) (ih (by omega))
  obtain ⟨n, hn⟩ := t
  obtain rfl : n = 31 := by dsimp only at ht; omega
  refine (hl ⟨31, hn⟩ (by dsimp only; omega) rfl).trans (congrArg g ?_)
  rw [Fin.sum_univ_castSucc]
  exact congrArg (· + u ⟨31, by omega⟩) (key 30 (by omega))

/-- The degrees, from the sums block by block. -/
theorem deg_blocks (a : Mat 4096 4096) (u : Fin cfg0.N → Fin 128 → EReal) (j : Fin 4096)
    (h : ∀ (t : Fin cfg0.N) (r : Fin 128) (p : Fin 4096), (p : ℕ) = t.val * 128 + r.val → u t r = a p j) : ∑ t, ∑ r, u t r = deg a j :=
  Fin.sum_mul_add_congr (fun t r hl => h t r ⟨_, hl⟩ rfl) (by decide)

theorem idx0_in : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] :=
  (by decide +kernel : ∀ t : Fin grid0.N, _)
theorem idx0_out : ∀ t : Fin cfg0.N, win0_9.index t = ![t.val, 0] ∧ win0_10.index t = ![t.val, 0] ∧ win0_11.index t = ![t.val, 0] ∧ win0_12.index t = ![t.val, 0] :=
  (by decide +kernel : ∀ t : Fin grid0.N, _)
theorem idx0_last : ∀ t : Fin cfg0.N, win0_6.index t = ![0, 0] ∧ win0_7.index t = ![0, 0] ∧ win0_8.index t = ![0, 0] ∧ win0_13.index t = ![0, 0]
    ∧ win0_14.index t = ![0, 0] ∧ win0_15.index t = ![0, 0] :=
  (by decide +kernel : ∀ t : Fin grid0.N, _)

/-- Row `r` of a point's three blocks is the arrays' row `p`. -/
theorem rows0 (c : Dev nD) (t : Fin cfg0.N) (r : Fin 128) (p : Fin 4096) (h : (p : ℕ) = t.val * 128 + (r : ℕ)) :
    (∀ j, iblk0 V c 0 t (ix2 r j) = V c main_arg2 (ix2 p j)) ∧ (∀ j, iblk0 V c 1 t (ix2 r j) = V c main_arg3 (ix2 p j))
      ∧ (∀ j, iblk0 V c 2 t (ix2 r j) = V c main_arg4 (ix2 p j)) := by
  obtain ⟨e0, e1, e2, e3, e4, e5⟩ := idx0_in t
  refine ⟨fun j => ?_, fun j => ?_, fun j => ?_⟩
  · blk_ext! [iblk0, e0, h]
  · blk_ext! [iblk0, e1, h]
  · blk_ext! [iblk0, e2, h]

/-- The other blocks are the whole of their arrays. -/
theorem whole0 (c : Dev nD) (t : Fin cfg0.N) : iblk0 V c 3 t = V c main_arg0 ∧ iblk0 V c 4 t = V c main_arg1 ∧ iblk0 V c 5 t = V c main_arg5 := by
  obtain ⟨e0, e1, e2, e3, e4, e5⟩ := idx0_in t
  refine ⟨?_, ?_, ?_⟩
  · blk_ext! [iblk0, e3]
  · blk_ext! [iblk0, e4]
  · blk_ext! [iblk0, e5]

/-- What the last point leaves of the inverse square roots. -/
theorem final_f (c : Dev nD) (t : Fin cfg0.N) (ht : t.val % 32 = 31) (j : Fin 4096) :
    (outsAt0 V c t.val t.isLt).1 (ix2 0 j) = Spec.inv (deg (mat (φ := .f32) (V c main_arg2)) j) := by
  refine (gather (by decide) (fun n h => (outsAt0 V c n h).1 (ix2 0 j)) (fun t => ∑ r : Fin 128, iblk0 V c 0 t (ix2 r j)) Spec.inv (fun t h0 h1 => ?_)
    (fun t h0 h1 => ?_) (fun t h0 h1 => ?_) t ht).trans (congrArg Spec.inv (deg_blocks _ _ _ fun t r p h => ?_))
  · refine (congrFun (sum_first_f V c t h0 h1) _).trans ((k0_pay17_apply _ _ j).trans ?_)
    rw [k0_pay14_apply]
  · exact (congrFun (sum_next_f V c t h0 h1) _).trans (k0_pay17_apply _ _ j)
  · exact (congrFun (sum_last_f V c t h0 h1) _).trans ((k0_pay5_apply _ j).trans (congrArg Spec.inv (k0_pay17_apply _ _ j)))
  · obtain ⟨r0, r1, r2⟩ := rows0 V c t r p h
    exact r0 j

/-- What the last point leaves of the inverse square roots. -/
theorem final_t (c : Dev nD) (t : Fin cfg0.N) (ht : t.val % 32 = 31) (j : Fin 4096) :
    (outsAt0 V c t.val t.isLt).2.1 (ix2 0 j) = Spec.inv (deg (mat (φ := .f32) (V c main_arg3)) j) := by
  refine (gather (by decide) (fun n h => (outsAt0 V c n h).2.1 (ix2 0 j)) (fun t => ∑ r : Fin 128, iblk0 V c 1 t (ix2 r j)) Spec.inv (fun t h0 h1 => ?_)
    (fun t h0 h1 => ?_) (fun t h0 h1 => ?_) t ht).trans (congrArg Spec.inv (deg_blocks _ _ _ fun t r p h => ?_))
  · refine (congrFun (sum_first_t V c t h0 h1) _).trans ((k0_pay17_apply _ _ j).trans ?_)
    rw [k0_pay14_apply]
  · exact (congrFun (sum_next_t V c t h0 h1) _).trans (k0_pay17_apply _ _ j)
  · exact (congrFun (sum_last_t V c t h0 h1) _).trans ((k0_pay5_apply _ j).trans (congrArg Spec.inv (k0_pay17_apply _ _ j)))
  · obtain ⟨r0, r1, r2⟩ := rows0 V c t r p h
    exact r1 j

/-- What the last point leaves of the inverse square roots. -/
theorem final_i (c : Dev nD) (t : Fin cfg0.N) (ht : t.val % 32 = 31) (j : Fin 4096) :
    (outsAt0 V c t.val t.isLt).2.2.1 (ix2 0 j) = Spec.inv (deg (mat (φ := .f32) (V c main_arg4)) j) := by
  refine (gather (by decide) (fun n h => (outsAt0 V c n h).2.2.1 (ix2 0 j)) (fun t => ∑ r : Fin 128, iblk0 V c 2 t (ix2 r j)) Spec.inv (fun t h0 h1 => ?_)
    (fun t h0 h1 => ?_) (fun t h0 h1 => ?_) t ht).trans (congrArg Spec.inv (deg_blocks _ _ _ fun t r p h => ?_))
  · refine (congrFun (sum_first_i V c t h0 h1) _).trans ((k0_pay17_apply _ _ j).trans ?_)
    rw [k0_pay14_apply]
  · exact (congrFun (sum_next_i V c t h0 h1) _).trans (k0_pay17_apply _ _ j)
  · exact (congrFun (sum_last_i V c t h0 h1) _).trans ((k0_pay5_apply _ j).trans (congrArg Spec.inv (k0_pay17_apply _ _ j)))
  · obtain ⟨r0, r1, r2⟩ := rows0 V c t r p h
    exact r2 j

theorem scale_f (c : Dev nD) : (dat0 V c).arrAt 6 cfg0.N = fun i => Spec.inv (deg (mat (φ := .f32) (V c main_arg2)) (i 1)) := by
  refine (dat0 V c).arrAt_eq_of_covers 6 _ (by decide +kernel) fun t hf y => ?_
  obtain ⟨e6, e7, e8, e13, e14, e15⟩ := idx0_last t
  blk_simp
  rw [after0_6]
  generalize hi : ((View.whole main_v10_0).slice (win0_6.rect t)).emb y = i
  have h1 : i 1 = y 1 := by subst hi; apply Fin.ext; blk_simp [e6]
  have hy : y = ix2 0 (y 1) := by blk_ext
  exact (congrArg _ hy).trans ((final_f V c t ((flush0_6 t).mp hf) (y 1)).trans (congrArg (fun j => Spec.inv (deg (mat (φ := .f32) (V c main_arg2)) j)) h1.symm))

theorem scale_t (c : Dev nD) : (dat0 V c).arrAt 7 cfg0.N = fun i => Spec.inv (deg (mat (φ := .f32) (V c main_arg3)) (i 1)) := by
  refine (dat0 V c).arrAt_eq_of_covers 7 _ (by decide +kernel) fun t hf y => ?_
  obtain ⟨e6, e7, e8, e13, e14, e15⟩ := idx0_last t
  blk_simp
  rw [after0_7]
  generalize hi : ((View.whole main_v10_1).slice (win0_7.rect t)).emb y = i
  have h1 : i 1 = y 1 := by subst hi; apply Fin.ext; blk_simp [e7]
  have hy : y = ix2 0 (y 1) := by blk_ext
  exact (congrArg _ hy).trans ((final_t V c t ((flush0_7 t).mp hf) (y 1)).trans (congrArg (fun j => Spec.inv (deg (mat (φ := .f32) (V c main_arg3)) j)) h1.symm))

theorem scale_i (c : Dev nD) : (dat0 V c).arrAt 8 cfg0.N = fun i => Spec.inv (deg (mat (φ := .f32) (V c main_arg4)) (i 1)) := by
  refine (dat0 V c).arrAt_eq_of_covers 8 _ (by decide +kernel) fun t hf y => ?_
  obtain ⟨e6, e7, e8, e13, e14, e15⟩ := idx0_last t
  blk_simp
  rw [after0_8]
  generalize hi : ((View.whole main_v10_2).slice (win0_8.rect t)).emb y = i
  have h1 : i 1 = y 1 := by subst hi; apply Fin.ext; blk_simp [e8]
  have hy : y = ix2 0 (y 1) := by blk_ext
  exact (congrArg _ hy).trans ((final_i V c t ((flush0_8 t).mp hf) (y 1)).trans (congrArg (fun j => Spec.inv (deg (mat (φ := .f32) (V c main_arg4)) j)) h1.symm))

theorem k0_pay13_of (x : Vec Ideal S128x4096 .f32) (r : Fin 128) (a : Fin 4096 → EReal) (h : ∀ j, x (ix2 r j) = a j) : k0_pay13 x (ix2 r 0) = ∑ j, a j :=
  (k0_pay13_apply x r).trans (Finset.sum_congr rfl fun j _ => h j)

/-- The row sums. -/
theorem row_sums (c : Dev nD) : (dat0 V c).arrAt 9 cfg0.N = fun i => ∑ j : Fin 4096, mat (φ := .f32) (V c main_arg3) (i 0) j := by
  refine (dat0 V c).arrAt_eq_of_covers 9 _ (by decide +kernel) fun t hf y => ?_
  obtain ⟨e9, e10, e11, e12⟩ := idx0_out t
  blk_simp
  rw [after0_9, every_9]
  generalize hi : ((View.whole main_v10_3).slice (win0_9.rect t)).emb y = i
  have h0 : (i 0 : ℕ) = t.val * 128 + (y 0 : ℕ) := by subst hi; blk_simp [e9]
  have hy : y = ix2 (y 0) 0 := by blk_ext
  obtain ⟨r0, r1, r2⟩ := rows0 V c t (y 0) (i 0) h0
  exact (congrArg _ hy).trans (k0_pay13_of _ (y 0) _ r1)

theorem copy_f (c : Dev nD) : (dat0 V c).arrAt 10 cfg0.N = fun i => V c main_arg2 (ix2 (i 0) (i 1)) := by
  refine (dat0 V c).arrAt_eq_of_covers 10 _ (by decide +kernel) fun t hf y => ?_
  obtain ⟨e9, e10, e11, e12⟩ := idx0_out t
  blk_simp
  rw [after0_10, every_10]
  generalize hi : ((View.whole main_v10_4).slice (win0_10.rect t)).emb y = i
  have h0 : (i 0 : ℕ) = t.val * 128 + (y 0 : ℕ) := by subst hi; blk_simp [e10]
  have h1 : i 1 = y 1 := by subst hi; apply Fin.ext; blk_simp [e10]
  obtain ⟨r0, r1, r2⟩ := rows0 V c t (y 0) (i 0) h0
  exact (congrArg _ (eq_ix2 y)).trans ((r0 (y 1)).trans (congrArg (fun j => V c main_arg2 (ix2 (i 0) j)) h1.symm))

theorem copy_t (c : Dev nD) : (dat0 V c).arrAt 11 cfg0.N = fun i => V c main_arg3 (ix2 (i 0) (i 1)) := by
  refine (dat0 V c).arrAt_eq_of_covers 11 _ (by decide +kernel) fun t hf y => ?_
  obtain ⟨e9, e10, e11, e12⟩ := idx0_out t
  blk_simp
  rw [after0_11, every_11]
  generalize hi : ((View.whole main_v10_5).slice (win0_11.rect t)).emb y = i
  have h0 : (i 0 : ℕ) = t.val * 128 + (y 0 : ℕ) := by subst hi; blk_simp [e11]
  have h1 : i 1 = y 1 := by subst hi; apply Fin.ext; blk_simp [e11]
  obtain ⟨r0, r1, r2⟩ := rows0 V c t (y 0) (i 0) h0
  exact (congrArg _ (eq_ix2 y)).trans ((r1 (y 1)).trans (congrArg (fun j => V c main_arg3 (ix2 (i 0) j)) h1.symm))

theorem copy_i (c : Dev nD) : (dat0 V c).arrAt 12 cfg0.N = fun i => V c main_arg4 (ix2 (i 0) (i 1)) := by
  refine (dat0 V c).arrAt_eq_of_covers 12 _ (by decide +kernel) fun t hf y => ?_
  obtain ⟨e9, e10, e11, e12⟩ := idx0_out t
  blk_simp
  rw [after0_12, every_12]
  generalize hi : ((View.whole main_v10_6).slice (win0_12.rect t)).emb y = i
  have h0 : (i 0 : ℕ) = t.val * 128 + (y 0 : ℕ) := by subst hi; blk_simp [e12]
  have h1 : i 1 = y 1 := by subst hi; apply Fin.ext; blk_simp [e12]
  obtain ⟨r0, r1, r2⟩ := rows0 V c t (y 0) (i 0) h0
  exact (congrArg _ (eq_ix2 y)).trans ((r2 (y 1)).trans (congrArg (fun j => V c main_arg4 (ix2 (i 0) j)) h1.symm))

/-- The scaled product of view `f`. -/
theorem scaled_f (c : Dev nD) : (dat0 V c).arrAt 13 cfg0.N = fun i =>
    pre (mat (φ := .f32) (V c main_arg2)) (mat (φ := .f32) (V c main_arg0)) (mat (φ := .f32) (V c main_arg5)) (i 0) (i 1) := by
  refine (dat0 V c).arrAt_eq_of_covers 13 _ (by decide +kernel) fun t hf y => ?_
  obtain ⟨e6, e7, e8, e13, e14, e15⟩ := idx0_last t
  obtain ⟨w3, w4, w5⟩ := whole0 V c t
  have ht : t.val % 32 = 31 := (flush0_13 t).mp hf
  blk_simp
  rw [after0_13, last_13 V c t (by omega) ht, w3, w5]
  have hi : ((View.whole main_v10_7).slice (win0_13.rect t)).emb y = y := by blk_ext [e13]
  rw [hi]
  refine (congrArg _ (eq_ix2 y)).trans ((k0_pay2_apply _ _ _ (y 0) (y 1)).trans ?_)
  exact congrArg (· * mm (mat (φ := .f32) (V c main_arg0)) (mat (φ := .f32) (V c main_arg5)) (y 0) (y 1)) (final_f V c t ht (y 0))

/-- The scaled product of view `i`. -/
theorem scaled_i (c : Dev nD) : (dat0 V c).arrAt 15 cfg0.N = fun i =>
    pre (mat (φ := .f32) (V c main_arg4)) (mat (φ := .f32) (V c main_arg0)) (mat (φ := .f32) (V c main_arg5)) (i 0) (i 1) := by
  refine (dat0 V c).arrAt_eq_of_covers 15 _ (by decide +kernel) fun t hf y => ?_
  obtain ⟨e6, e7, e8, e13, e14, e15⟩ := idx0_last t
  obtain ⟨w3, w4, w5⟩ := whole0 V c t
  have ht : t.val % 32 = 31 := (flush0_15 t).mp hf
  blk_simp
  rw [after0_15, last_15 V c t (by omega) ht, w3, w5]
  have hi : ((View.whole main_v10_9).slice (win0_15.rect t)).emb y = y := by blk_ext [e15]
  rw [hi]
  refine (congrArg _ (eq_ix2 y)).trans ((k0_pay2_apply _ _ _ (y 0) (y 1)).trans ?_)
  exact congrArg (· * mm (mat (φ := .f32) (V c main_arg0)) (mat (φ := .f32) (V c main_arg5)) (y 0) (y 1)) (final_i V c t ht (y 0))

/-- The two scaled products of view `t`, in the two halves of one array. -/
theorem scaled_t (c : Dev nD) (r : Fin 4096) (j : Fin 128) :
    (dat0 V c).arrAt 14 cfg0.N (ix2 r (lef j)) = pre (mat (φ := .f32) (V c main_arg3)) (mat (φ := .f32) (V c main_arg0)) (mat (φ := .f32) (V c main_arg5)) r j
      ∧ (dat0 V c).arrAt 14 cfg0.N (ix2 r (rig j)) = pre (mat (φ := .f32) (V c main_arg3)) (mat (φ := .f32) (V c main_arg1)) (mat (φ := .f32) (V c main_arg5)) r j := by
  obtain ⟨t, ht⟩ : ∃ t : Fin cfg0.N, t.val % 32 = 31 := ⟨⟨31, by decide⟩, rfl⟩
  have hN : cfg0.N = 32 := by decide
  have hA : (dat0 V c).arrAt 14 cfg0.N = (outsAt0 V c t.val t.isLt).2.2.2.2.2.2.2.2.1 := by
    refine (dat0 V c).arrAt_eq_of_covers 14 _ (by decide +kernel) fun t' hf y => ?_
    obtain ⟨e6, e7, e8, e13, e14, e15⟩ := idx0_last t
    obtain rfl : t' = t := Fin.ext (by have := (flush0_14 t').mp hf; omega)
    blk_simp
    rw [after0_14]
    have hi : ((View.whole main_v10_8).slice (win0_14.rect t')).emb y = y := by blk_ext [e14]
    rw [hi]
  obtain ⟨w3, w4, w5⟩ := whole0 V c t
  have hL := last_14 V c t (by omega) ht
  have hF := final_t V c t ht r
  rw [w3, w4, w5] at hL
  obtain ⟨p, q⟩ := k0_pay3_apply (V c main_arg5) (V c main_arg0) (V c main_arg1) (outsAt0 V c t.val t.isLt).2.1 r j
  rw [hA]
  exact ⟨(congrFun hL _).trans (p.trans (congrArg (· * mm (mat (φ := .f32) (V c main_arg0)) (mat (φ := .f32) (V c main_arg5)) r j) hF)),
    (congrFun hL _).trans (q.trans (congrArg (· * mm (mat (φ := .f32) (V c main_arg1)) (mat (φ := .f32) (V c main_arg5)) r j) hF))⟩

end Cert.KernelSide

end
-- ==== Proof.Layer1.lean ====
/-
  The first aggregation call, entry by entry: each of its three outputs over the contents it is entered with.
-/
module

public import proofs.«01_k».proof.Proof.Spec
public import proofs.«01_k».proof.Proof.Gen.KernelIdeal.Frame.Region1
public import Idealize.ShloMosaic.Lib.Pipeline.ValueKit

@[expose] public section

set_option maxRecDepth 16384

noncomputable section

namespace Cert.KernelSide

open Cert.KernelIdeal Cert.KernelIdeal.Gen Cert.Spec Idealize.ShloMosaic Idealize.ShloMosaic.TcCoe

variable (V : (c : Dev nD) → (b : Ref sig .tc) → Buf (Elt Ideal) ((c : Thread nD τ).loc b))

/-- One view's payload at an entry. -/
theorem k1_pay2_apply (f : Vec Ideal S4096x512 .bf16) (y : Vec Ideal S4096x128 .bf16) (d : Vec Ideal S512x1 .f32) (b : Vec Ideal S1x128 .f32) (p : Fin 512) (q : Fin 128) :
    k1_pay2 f y d b (ix2 p q) = (∑ r : Fin 4096, f (ix2 r p) * y (ix2 r q)) * d (ix2 p 0) + b (ix2 0 q) := by
  pointwise [k1_pay2]

/-- The payload of the two passes that share a view. -/
theorem k1_pay3_apply (f : Vec Ideal S4096x512 .bf16) (y : Vec Ideal S4096x256 .bf16) (d : Vec Ideal S512x1 .f32) (b : Vec Ideal S1x256 .f32) (p : Fin 512) (q : Fin 256) :
    k1_pay3 f y d b (ix2 p q) = (∑ r : Fin 4096, f (ix2 r p) * y (ix2 r q)) * d (ix2 p 0) + b (ix2 0 q) := by
  pointwise [k1_pay3]

theorem idx1_f : ∀ t : Fin cfg1.N, win1_0.index t = ![0, t.val] ∧ win1_3.index t = ![0, 0] ∧ win1_6.index t = ![t.val, 0] ∧ win1_9.index t = ![0, 0] ∧ win1_12.index t = ![t.val, 0] :=
  (by decide +kernel : ∀ t : Fin grid1.N, _)
theorem idx1_t : ∀ t : Fin cfg1.N, win1_1.index t = ![0, t.val] ∧ win1_4.index t = ![0, 0] ∧ win1_7.index t = ![t.val, 0] ∧ win1_10.index t = ![0, 0] ∧ win1_13.index t = ![t.val, 0] :=
  (by decide +kernel : ∀ t : Fin grid1.N, _)
theorem idx1_i : ∀ t : Fin cfg1.N, win1_2.index t = ![0, t.val] ∧ win1_5.index t = ![0, 0] ∧ win1_8.index t = ![t.val, 0] ∧ win1_11.index t = ![0, 0] ∧ win1_14.index t = ![t.val, 0] :=
  (by decide +kernel : ∀ t : Fin grid1.N, _)

/-- The first view. -/
theorem layer1_f (c : Dev nD) :
    (dat1 V c).arrAt 12 cfg1.N = layV (φ := .bf16) (V c main_v10_4) (V c main_v10_7) (V c main_v11) (V c main_v2) := by
  refine (dat1 V c).arrAt_eq_of_covers 12 _ (by decide +kernel) fun t hf y => ?_
  obtain ⟨ea, ey, ed, eb, eo⟩ := idx1_f t
  blk_simp
  rw [after1_12]; frame_out
  generalize hi : ((View.whole main_v15_0).slice (win1_12.rect t)).emb y = i
  have h0 : (i 0 : ℕ) = t.val * 512 + (y 0 : ℕ) := by subst hi; blk_simp [eo]
  have h1 : (i 1 : ℕ) = (y 1 : ℕ) := by subst hi; blk_simp [eo]
  refine (congrArg _ (eq_ix2 y)).trans ((k1_pay2_apply _ _ _ _ (y 0) (y 1)).trans (layV_of i (fun r => ?_) (fun r => ?_) ?_ ?_))
  · blk_ext! [iblk1, ea, h0]
  · blk_ext! [iblk1, ey, h1]
  · blk_ext! [iblk1, ed, h0]
  · blk_ext! [iblk1, eb, h1]

/-- The second view, with and without the permuted features side by side. -/
theorem layer1_t (c : Dev nD) :
    (dat1 V c).arrAt 13 cfg1.N = layV (φ := .bf16) (V c main_v10_5) (V c main_v10_8) (V c main_v12) (V c main_v14) := by
  refine (dat1 V c).arrAt_eq_of_covers 13 _ (by decide +kernel) fun t hf y => ?_
  obtain ⟨ea, ey, ed, eb, eo⟩ := idx1_t t
  blk_simp
  rw [after1_13]; frame_out
  generalize hi : ((View.whole main_v15_1).slice (win1_13.rect t)).emb y = i
  have h0 : (i 0 : ℕ) = t.val * 512 + (y 0 : ℕ) := by subst hi; blk_simp [eo]
  have h1 : (i 1 : ℕ) = (y 1 : ℕ) := by subst hi; blk_simp [eo]
  refine (congrArg _ (eq_ix2 y)).trans ((k1_pay3_apply _ _ _ _ (y 0) (y 1)).trans (layV_of i (fun r => ?_) (fun r => ?_) ?_ ?_))
  · blk_ext! [iblk1, ea, h0]
  · blk_ext! [iblk1, ey, h1]
  · blk_ext! [iblk1, ed, h0]
  · blk_ext! [iblk1, eb, h1]

/-- The third view. -/
theorem layer1_i (c : Dev nD) :
    (dat1 V c).arrAt 14 cfg1.N = layV (φ := .bf16) (V c main_v10_6) (V c main_v10_9) (V c main_v13) (V c main_v2) := by
  refine (dat1 V c).arrAt_eq_of_covers 14 _ (by decide +kernel) fun t hf y => ?_
  obtain ⟨ea, ey, ed, eb, eo⟩ := idx1_i t
  blk_simp
  rw [after1_14]; frame_out
  generalize hi : ((View.whole main_v15_2).slice (win1_14.rect t)).emb y = i
  have h0 : (i 0 : ℕ) = t.val * 512 + (y 0 : ℕ) := by subst hi; blk_simp [eo]
  have h1 : (i 1 : ℕ) = (y 1 : ℕ) := by subst hi; blk_simp [eo]
  refine (congrArg _ (eq_ix2 y)).trans ((k1_pay2_apply _ _ _ _ (y 0) (y 1)).trans (layV_of i (fun r => ?_) (fun r => ?_) ?_ ?_))
  · blk_ext! [iblk1, ea, h0]
  · blk_ext! [iblk1, ey, h1]
  · blk_ext! [iblk1, ed, h0]
  · blk_ext! [iblk1, eb, h1]

end Cert.KernelSide

end
-- ==== Proof.Middle.lean ====
/-
  The call between the two aggregations, entry by entry, over the contents it is entered with.
-/
module

public import proofs.«01_k».proof.Proof.Spec
public import proofs.«01_k».proof.Proof.Gen.KernelIdeal.Frame.Region2
public import Idealize.ShloMosaic.Lib.Pipeline.ValueKit

@[expose] public section

set_option maxRecDepth 16384

noncomputable section

namespace Cert.KernelSide

open Cert.KernelIdeal Cert.KernelIdeal.Gen Cert.Spec Idealize.ShloMosaic Idealize.ShloMosaic.TcCoe

variable (V : (c : Dev nD) → (b : Ref sig .tc) → Buf (Elt Ideal) ((c : Thread nD τ).loc b))

/-- One view's payload. -/
theorem k2_pay4_eq (g b : Vec Ideal S1x128 .f32) (w : Vec Ideal S128x64 .f32) (h : Vec Ideal S4096x128 .f32) (d : Vec Ideal S4096x1 .f32) :
    k2_pay4 g b w h d = midV .bf16 h g b w d := by
  funext i
  obtain ⟨r, j, rfl⟩ : ∃ r j, i = ix2 r j := ⟨_, _, eq_ix2 i⟩
  unfold midV mid mm bnr var cen mean rows eps
  pointwise [k2_pay4, k2_pay2, k2_pay3]

/-- The two passes that share a view, their payloads side by side. -/
theorem k2_pay10_eq (g b : Vec Ideal S1x128 .f32) (w : Vec Ideal S128x64 .f32) (h h' : Vec Ideal S4096x128 .f32) (d : Vec Ideal S4096x1 .f32) :
    k2_pay10 (k2_pay2 g) (k2_pay3 b) w (k2_pay6 (k2_pay2 g) (k2_pay3 b) w (k2_pay5 h) d) (k2_pay7 d) (k2_pay8 h') (k2_pay9 h') =
      concatenate S4096x128 1 [⟨S4096x64, k2_pay4 g b w h d⟩, ⟨S4096x64, k2_pay4 g b w h' d⟩] concatenates_S4096x64_S4096x64_S4096x128_d1 := rfl

/-- The third view's payload is the first's of its own operands. -/
theorem k2_pay1_eq (g b : Vec Ideal S1x128 .f32) (w : Vec Ideal S128x64 .f32) (h : Vec Ideal S4096x128 .f32) (d : Vec Ideal S4096x1 .f32) :
    k2_pay1 w (k2_pay11 d) (k2_pay12 (k2_pay2 g) (k2_pay3 b) h) (constant S4096x64 .f32 0x00000000#32) = k2_pay4 g b w h d := rfl

/-- Two arrays side by side. -/
def two (x y : FVec Ideal S4096x64 .bf16) : FVec Ideal S4096x128 .bf16 :=
  concatenate S4096x128 1 [⟨S4096x64, x⟩, ⟨S4096x64, y⟩] concatenates_S4096x64_S4096x64_S4096x128_d1

/-- Two halves side by side, read in either half. -/
theorem two_apply (x y : FVec Ideal S4096x64 .bf16) (r : Fin 4096) (j : Fin 64) :
    two x y (ix2 r (lef' j)) = x (ix2 r j) ∧ two x y (ix2 r (rig' j)) = y (ix2 r j) := by
  unfold two
  constructor
  · unfold lef'
    pointwise
  · unfold rig'
    pointwise

/-- The columns `e` of an array. -/
def cut (e : Fin 128 → Fin 256) (h : FVec Ideal S4096x256 .f32) : FVec Ideal S4096x128 .f32 := fun i => h (ix2 (i 0) (e (i 1)))

theorem cut_lef (h : Vec Ideal S4096x256 .f32) : View.ld h r2_5 = cut lef h := funext fun i =>
  View.ld_unit_apply_of h _ _ _ i (ix2 (i 0) (lef (i 1))) fun a => match a with
    | ⟨0, _⟩ => (Nat.zero_add _).symm
    | ⟨1, _⟩ => (Nat.zero_add _).symm
theorem cut_rig (h : Vec Ideal S4096x256 .f32) : View.ld h r2_6 = cut rig h := funext fun i =>
  View.ld_unit_apply_of h _ _ _ i (ix2 (i 0) (rig (i 1))) fun a => match a with
    | ⟨0, _⟩ => (Nat.zero_add _).symm
    | ⟨1, _⟩ => rfl

/-- The payload of the two passes that share a view. -/
theorem k2_pay10_two (g b : Vec Ideal S1x128 .f32) (w : Vec Ideal S128x64 .f32) (h : Vec Ideal S4096x256 .f32) (d : Vec Ideal S4096x1 .f32) :
    k2_pay10 (k2_pay2 g) (k2_pay3 b) w (k2_pay6 (k2_pay2 g) (k2_pay3 b) w (k2_pay5 (View.ld h r2_5)) d) (k2_pay7 d) (k2_pay8 (View.ld h r2_6)) (k2_pay9 (View.ld h r2_6)) =
      two (midV .bf16 (cut lef h) g b w d) (midV .bf16 (cut rig h) g b w d) := by
  rw [cut_lef, cut_rig]
  refine (k2_pay10_eq g b w (cut lef h) (cut rig h) d).trans ?_
  rw [k2_pay4_eq, k2_pay4_eq]
  rfl

theorem idx2_in : ∀ t : Fin cfg2.N, win2_0.index t = ![0, 0] ∧ win2_1.index t = ![0, 0] ∧ win2_2.index t = ![0, 0] ∧ win2_3.index t = ![0, 0]
    ∧ win2_4.index t = ![0, 0] ∧ win2_5.index t = ![0, 0] ∧ win2_6.index t = ![0, 0] ∧ win2_7.index t = ![0, 0] ∧ win2_8.index t = ![0, 0] :=
  (by decide +kernel : ∀ t : Fin grid2.N, _)
theorem idx2_out : ∀ t : Fin cfg2.N, win2_9.index t = ![0, 0] ∧ win2_10.index t = ![0, 0] ∧ win2_11.index t = ![0, 0] :=
  (by decide +kernel : ∀ t : Fin grid2.N, _)

/-- Every block the call reads is the whole of its array. -/
theorem whole2 (c : Dev nD) (t : Fin cfg2.N) :
    iblk2 V c 0 t = V c main_v15_0 ∧ iblk2 V c 1 t = V c main_v15_1 ∧ iblk2 V c 2 t = V c main_v15_2 ∧ iblk2 V c 3 t = V c main_v0 ∧ iblk2 V c 4 t = V c main_v1
      ∧ iblk2 V c 5 t = V c main_arg7 ∧ iblk2 V c 6 t = V c main_v11 ∧ iblk2 V c 7 t = V c main_v12 ∧ iblk2 V c 8 t = V c main_v13 := by
  obtain ⟨e0, e1, e2, e3, e4, e5, e6, e7, e8⟩ := idx2_in t
  refine ⟨?_, ?_, ?_, ?_, ?_, ?_, ?_, ?_, ?_⟩
  · blk_ext! [iblk2, e0]
  · blk_ext! [iblk2, e1]
  · blk_ext! [iblk2, e2]
  · blk_ext! [iblk2, e3]
  · blk_ext! [iblk2, e4]
  · blk_ext! [iblk2, e5]
  · blk_ext! [iblk2, e6]
  · blk_ext! [iblk2, e7]
  · blk_ext! [iblk2, e8]

/-- The first view. -/
theorem middle_f (c : Dev nD) :
    (dat2 V c).arrAt 9 cfg2.N = midV .bf16 (V c main_v15_0) (V c main_v0) (V c main_v1) (V c main_arg7) (V c main_v11) := by
  refine (dat2 V c).arrAt_eq_of_covers 9 _ (by decide +kernel) fun t hf y => ?_
  obtain ⟨w0, w1, w2, w3, w4, w5, w6, w7, w8⟩ := whole2 V c t
  obtain ⟨e9, e10, e11⟩ := idx2_out t
  blk_simp
  rw [after2_9]; frame_out
  rw [w0, w3, w4, w5, w6]
  refine (congrFun (k2_pay4_eq _ _ _ _ _) y).trans (congrArg _ ?_)
  blk_ext [e9]

/-- The third view. -/
theorem middle_i (c : Dev nD) :
    (dat2 V c).arrAt 11 cfg2.N = midV .bf16 (V c main_v15_2) (V c main_v0) (V c main_v1) (V c main_arg7) (V c main_v13) := by
  refine (dat2 V c).arrAt_eq_of_covers 11 _ (by decide +kernel) fun t hf y => ?_
  obtain ⟨w0, w1, w2, w3, w4, w5, w6, w7, w8⟩ := whole2 V c t
  obtain ⟨e9, e10, e11⟩ := idx2_out t
  blk_simp
  rw [after2_11]; frame_out
  unfold k2_pay13 k2_pay14
  frame_out
  rw [w2, w3, w4, w5, w8, k2_pay1_eq]
  refine (congrFun (k2_pay4_eq _ _ _ _ _) y).trans (congrArg _ ?_)
  blk_ext [e11]

/-- The second view: its two passes side by side. -/
theorem middle_t (c : Dev nD) :
    (dat2 V c).arrAt 10 cfg2.N = two (midV .bf16 (cut lef (V c main_v15_1)) (V c main_v0) (V c main_v1) (V c main_arg7) (V c main_v12))
       (midV .bf16 (cut rig (V c main_v15_1)) (V c main_v0) (V c main_v1) (V c main_arg7) (V c main_v12)) := by
  refine (dat2 V c).arrAt_eq_of_covers 10 _ (by decide +kernel) fun t hf y => ?_
  obtain ⟨w0, w1, w2, w3, w4, w5, w6, w7, w8⟩ := whole2 V c t
  obtain ⟨e9, e10, e11⟩ := idx2_out t
  blk_simp
  rw [after2_10]; frame_out
  unfold k2_pay13 k2_pay14
  frame_out
  rw [w1, w3, w4, w5, w7]
  refine (congrFun (k2_pay10_two _ _ _ _ _) y).trans (congrArg _ ?_)
  blk_ext [e10]

end Cert.KernelSide

end
-- ==== Proof.Layer3.lean ====
/-
  The second aggregation call, entry by entry: each of its three outputs over the contents it is entered with.
-/
module

public import proofs.«01_k».proof.Proof.Spec
public import proofs.«01_k».proof.Proof.Gen.KernelIdeal.Frame.Region3
public import Idealize.ShloMosaic.Lib.Pipeline.ValueKit

@[expose] public section

set_option maxRecDepth 16384

noncomputable section

namespace Cert.KernelSide

open Cert.KernelIdeal Cert.KernelIdeal.Gen Cert.Spec Idealize.ShloMosaic Idealize.ShloMosaic.TcCoe

variable (V : (c : Dev nD) → (b : Ref sig .tc) → Buf (Elt Ideal) ((c : Thread nD τ).loc b))

/-- One view's payload at an entry. -/
theorem k3_pay2_apply (f : Vec Ideal S4096x512 .bf16) (y : Vec Ideal S4096x64 .bf16) (d : Vec Ideal S512x1 .f32) (b : Vec Ideal S1x64 .f32) (p : Fin 512) (q : Fin 64) :
    k3_pay2 f y d b (ix2 p q) = (∑ r : Fin 4096, f (ix2 r p) * y (ix2 r q)) * d (ix2 p 0) + b (ix2 0 q) := by
  pointwise [k3_pay2]

/-- The payload of the two passes that share a view. -/
theorem k3_pay3_apply (f : Vec Ideal S4096x512 .bf16) (y : Vec Ideal S4096x128 .bf16) (d : Vec Ideal S512x1 .f32) (b : Vec Ideal S1x128 .f32) (p : Fin 512) (q : Fin 128) :
    k3_pay3 f y d b (ix2 p q) = (∑ r : Fin 4096, f (ix2 r p) * y (ix2 r q)) * d (ix2 p 0) + b (ix2 0 q) := by
  pointwise [k3_pay3]

theorem idx3_f : ∀ t : Fin cfg3.N, win3_0.index t = ![0, t.val] ∧ win3_3.index t = ![0, 0] ∧ win3_6.index t = ![t.val, 0] ∧ win3_9.index t = ![0, 0] ∧ win3_12.index t = ![t.val, 0] :=
  (by decide +kernel : ∀ t : Fin grid3.N, _)
theorem idx3_t : ∀ t : Fin cfg3.N, win3_1.index t = ![0, t.val] ∧ win3_4.index t = ![0, 0] ∧ win3_7.index t = ![t.val, 0] ∧ win3_10.index t = ![0, 0] ∧ win3_13.index t = ![t.val, 0] :=
  (by decide +kernel : ∀ t : Fin grid3.N, _)
theorem idx3_i : ∀ t : Fin cfg3.N, win3_2.index t = ![0, t.val] ∧ win3_5.index t = ![0, 0] ∧ win3_8.index t = ![t.val, 0] ∧ win3_11.index t = ![0, 0] ∧ win3_14.index t = ![t.val, 0] :=
  (by decide +kernel : ∀ t : Fin grid3.N, _)

/-- The first view. -/
theorem layer3_f (c : Dev nD) :
    (dat3 V c).arrAt 12 cfg3.N = layV (φ := .bf16) (V c main_v10_4) (V c main_v16_0) (V c main_v11) (V c main_v3) := by
  refine (dat3 V c).arrAt_eq_of_covers 12 _ (by decide +kernel) fun t hf y => ?_
  obtain ⟨ea, ey, ed, eb, eo⟩ := idx3_f t
  blk_simp
  rw [after3_12]; frame_out
  generalize hi : ((View.whole main_v18_0).slice (win3_12.rect t)).emb y = i
  have h0 : (i 0 : ℕ) = t.val * 512 + (y 0 : ℕ) := by subst hi; blk_simp [eo]
  have h1 : (i 1 : ℕ) = (y 1 : ℕ) := by subst hi; blk_simp [eo]
  refine (congrArg _ (eq_ix2 y)).trans ((k3_pay2_apply _ _ _ _ (y 0) (y 1)).trans (layV_of i (fun r => ?_) (fun r => ?_) ?_ ?_))
  · blk_ext! [iblk3, ea, h0]
  · blk_ext! [iblk3, ey, h1]
  · blk_ext! [iblk3, ed, h0]
  · blk_ext! [iblk3, eb, h1]

/-- The second view, with and without the permuted features side by side. -/
theorem layer3_t (c : Dev nD) :
    (dat3 V c).arrAt 13 cfg3.N = layV (φ := .bf16) (V c main_v10_5) (V c main_v16_1) (V c main_v12) (V c main_v17) := by
  refine (dat3 V c).arrAt_eq_of_covers 13 _ (by decide +kernel) fun t hf y => ?_
  obtain ⟨ea, ey, ed, eb, eo⟩ := idx3_t t
  blk_simp
  rw [after3_13]; frame_out
  generalize hi : ((View.whole main_v18_1).slice (win3_13.rect t)).emb y = i
  have h0 : (i 0 : ℕ) = t.val * 512 + (y 0 : ℕ) := by subst hi; blk_simp [eo]
  have h1 : (i 1 : ℕ) = (y 1 : ℕ) := by subst hi; blk_simp [eo]
  refine (congrArg _ (eq_ix2 y)).trans ((k3_pay3_apply _ _ _ _ (y 0) (y 1)).trans (layV_of i (fun r => ?_) (fun r => ?_) ?_ ?_))
  · blk_ext! [iblk3, ea, h0]
  · blk_ext! [iblk3, ey, h1]
  · blk_ext! [iblk3, ed, h0]
  · blk_ext! [iblk3, eb, h1]

/-- The third view. -/
theorem layer3_i (c : Dev nD) :
    (dat3 V c).arrAt 14 cfg3.N = layV (φ := .bf16) (V c main_v10_6) (V c main_v16_2) (V c main_v13) (V c main_v3) := by
  refine (dat3 V c).arrAt_eq_of_covers 14 _ (by decide +kernel) fun t hf y => ?_
  obtain ⟨ea, ey, ed, eb, eo⟩ := idx3_i t
  blk_simp
  rw [after3_14]; frame_out
  generalize hi : ((View.whole main_v18_2).slice (win3_14.rect t)).emb y = i
  have h0 : (i 0 : ℕ) = t.val * 512 + (y 0 : ℕ) := by subst hi; blk_simp [eo]
  have h1 : (i 1 : ℕ) = (y 1 : ℕ) := by subst hi; blk_simp [eo]
  refine (congrArg _ (eq_ix2 y)).trans ((k3_pay2_apply _ _ _ _ (y 0) (y 1)).trans (layV_of i (fun r => ?_) (fun r => ?_) ?_ ?_))
  · blk_ext! [iblk3, ea, h0]
  · blk_ext! [iblk3, ey, h1]
  · blk_ext! [iblk3, ed, h0]
  · blk_ext! [iblk3, eb, h1]

end Cert.KernelSide

end
-- ==== Proof.Readout.lean ====
/-
  The readout and attention call, entry by entry: three of its outputs over the contents it is entered with.
-/
module

public import proofs.«01_k».proof.Proof.Spec
public import proofs.«01_k».proof.Proof.Gen.KernelIdeal.Frame.Region4
public import Idealize.ShloMosaic.Lib.Pipeline.ValueKit

@[expose] public section

set_option maxRecDepth 16384

noncomputable section

namespace Cert.KernelSide

open Cert.KernelIdeal Cert.KernelIdeal.Gen Cert.Spec Idealize.ShloMosaic Idealize.ShloMosaic.TcCoe

variable (V : (c : Dev nD) → (b : Ref sig .tc) → Buf (Elt Ideal) ((c : Thread nD τ).loc b))

/-- The squashed averages of a block of rows. -/
theorem k4_pay11_apply (a : Vec Ideal S1024x4096 .bf16) (t : Vec Ideal S4096x64 .f32) (s : Vec Ideal S1024x1 .f32) (r : Fin 1024) (j : Fin 64) :
    k4_pay11 a t s (ix2 r j) = squash (fun r j => Ideal.div (∑ c : Fin 4096, a (ix2 r c) * t (ix2 c j)) (s (ix2 r 0))) r j := by
  unfold squash tiny
  pointwise [k4_pay11]

/-- A block's bilinear scores. -/
theorem k4_pay18_apply (a : Vec Ideal S1024x4096 .bf16) (t : Vec Ideal S4096x64 .f32) (s : Vec Ideal S1024x1 .f32) (h : Vec Ideal S1024x64 .f32) (w : Vec Ideal S64x64 .f32)
    (b : Vec Ideal S1x1 .f32) (r : Fin 1024) :
    k4_pay18 (k4_pay17 a t s h w) b (ix2 r 0) = (∑ j : Fin 64, (∑ i : Fin 64, h (ix2 r i) * w (ix2 i j)) * k4_pay11 a t s (ix2 r j)) + b (ix2 0 0) := by
  pointwise [k4_pay18, k4_pay17, k4_pay13, k4_pay15]

theorem k4_pay19_apply (g : FVec Ideal S1024x64 .f32) (h : Vec Ideal S1024x64 .f32) (w : Vec Ideal S64x64 .f32) (b : Vec Ideal S1x1 .f32) (r : Fin 1024) :
    k4_pay19 g (k4_pay16 h w) b (ix2 r 0) = (∑ j : Fin 64, (∑ i : Fin 64, h (ix2 r i) * w (ix2 i j)) * g (ix2 r j)) + b (ix2 0 0) := by
  pointwise [k4_pay19, k4_pay16, k4_pay15]

/-- A block's attention scores. -/
theorem k4_pay22_apply (h : Vec Ideal S1024x64 .f32) (w : Vec Ideal S64x16 .f32) (b v : Vec Ideal S1x16 .f32) (r : Fin 1024) :
    k4_pay22 h w b v (ix2 r 0) = score (mat (φ := .f32) h) (mat (φ := .f32) w) (lane (φ := .f32) b) (lane (φ := .f32) v) r := by
  unfold score mm
  pointwise [k4_pay22, k4_pay20, k4_pay21]

/-- The mixed rows of a block. -/
theorem k4_pay10_apply (x y z : Vec Ideal S1024x64 .f32) (u v : FVec Ideal S1024x1 .f32) (e : FVec Ideal S1024x16 .f32) (r : Fin 1024) (j : Fin 64) :
    k4_pay10 x y z u v e (ix2 r j) = fuse (u (ix2 r 0)) (v (ix2 r 0)) (k4_pay1 e (ix2 r 0)) (x (ix2 r j)) (y (ix2 r j)) (z (ix2 r j)) := by
  unfold fuse share sum3 top3
  pointwise [k4_pay10, k4_pay7, k4_pay8, k4_pay9, k4_pay6, k4_pay5, k4_pay4, k4_pay3, k4_pay2]

theorem k4_pay12_eq (x : Vec Ideal S1024x64 .f32) : k4_pay12 x = x := shapeCast_self _ _

/-- The mixed rows of a block, from its operands. -/
theorem k4_mix_apply (x y z : Vec Ideal S1024x64 .f32) (w : Vec Ideal S64x16 .f32) (b v : Vec Ideal S1x16 .f32) (r : Fin 1024) (j : Fin 64) :
    k4_pay10 (k4_pay12 x) (k4_pay13 y) (k4_pay14 z) (k4_pay22 (k4_pay12 x) w b v) (k4_pay23 (k4_pay13 y) w b v) (k4_pay24 (k4_pay14 z) w b v) (ix2 r j) =
      mix (mat (φ := .f32) x) (mat (φ := .f32) y) (mat (φ := .f32) z) (mat (φ := .f32) w) (lane (φ := .f32) b) (lane (φ := .f32) v) r j := by
  refine (k4_pay10_apply _ _ _ _ _ _ r j).trans ?_
  rw [show k4_pay13 y = y from k4_pay12_eq y, show k4_pay14 z = z from k4_pay12_eq z, k4_pay12_eq x, k4_pay22_apply,
    show k4_pay23 y w b v = k4_pay22 y w b v from rfl, k4_pay22_apply, show k4_pay1 (k4_pay24 z w b v) = k4_pay22 z w b v from rfl, k4_pay22_apply]
  rfl

theorem idx4_rows : ∀ t : Fin cfg4.N, win4_0.index t = ![t.val, 0] ∧ win4_2.index t = ![t.val, 0] ∧ win4_3.index t = ![t.val, 0] ∧ win4_4.index t = ![t.val, 0]
    ∧ win4_5.index t = ![t.val, 0] ∧ win4_6.index t = ![t.val, 0] ∧ win4_12.index t = ![t.val, 0] ∧ win4_13.index t = ![t.val, 0] ∧ win4_14.index t = ![t.val, 0] :=
  (by decide +kernel : ∀ t : Fin grid4.N, _)
theorem idx4_whole : ∀ t : Fin cfg4.N, win4_1.index t = ![0, 0] ∧ win4_7.index t = ![0, 0] ∧ win4_8.index t = ![0, 0] ∧ win4_9.index t = ![0, 0]
    ∧ win4_10.index t = ![0, 0] ∧ win4_11.index t = ![0, 0] :=
  (by decide +kernel : ∀ t : Fin grid4.N, _)

/-- The blocks the call reads that are the whole of their arrays. -/
theorem whole4 (c : Dev nD) (t : Fin cfg4.N) :
    iblk4 V c 1 t = V c main_v19 ∧ iblk4 V c 7 t = V c main_v9 ∧ iblk4 V c 8 t = V c main_v8 ∧ iblk4 V c 9 t = V c main_arg15
      ∧ iblk4 V c 10 t = V c main_v6 ∧ iblk4 V c 11 t = V c main_v7 := by
  obtain ⟨e1, e7, e8, e9, e10, e11⟩ := idx4_whole t
  refine ⟨?_, ?_, ?_, ?_, ?_, ?_⟩
  · blk_ext! [iblk4, e1]
  · blk_ext! [iblk4, e7]
  · blk_ext! [iblk4, e8]
  · blk_ext! [iblk4, e9]
  · blk_ext! [iblk4, e10]
  · blk_ext! [iblk4, e11]

/-- Row `p` of the blocks cut along the rows at point `t` is row `r` of their arrays. -/
theorem rows4 (c : Dev nD) (t : Fin cfg4.N) (p : Fin 1024) (r : Fin 4096) (h : (r : ℕ) = t.val * 1024 + (p : ℕ)) :
    (∀ j, iblk4 V c 0 t (ix2 p j) = V c main_v10_5 (ix2 r j)) ∧ iblk4 V c 2 t (ix2 p 0) = V c main_v10_3 (ix2 r 0)
      ∧ (∀ j, iblk4 V c 3 t (ix2 p j) = V c main_v18_0 (ix2 r j)) ∧ (∀ j, iblk4 V c 4 t (ix2 p j) = V c main_v19 (ix2 r j))
      ∧ (∀ j, iblk4 V c 5 t (ix2 p j) = V c main_v20 (ix2 r j)) ∧ (∀ j, iblk4 V c 6 t (ix2 p j) = V c main_v18_2 (ix2 r j)) := by
  obtain ⟨e0, e2, e3, e4, e5, e6, _⟩ := idx4_rows t
  refine ⟨fun j => ?_, ?_, fun j => ?_, fun j => ?_, fun j => ?_, fun j => ?_⟩
  · blk_ext! [iblk4, e0, h]
  · blk_ext! [iblk4, e2, h]
  · blk_ext! [iblk4, e3, h]
  · blk_ext! [iblk4, e4, h]
  · blk_ext! [iblk4, e5, h]
  · blk_ext! [iblk4, e6, h]

/-- The squashed averages the call computes from the contents it is entered with. -/
abbrev gate4 (c : Dev nD) : Mat 4096 64 := gate (φ := .bf16) (V c main_v10_5) (V c main_v19) (V c main_v10_3)

theorem gate4_apply (c : Dev nD) (t : Fin cfg4.N) (p : Fin 1024) (r : Fin 4096) (h : (r : ℕ) = t.val * 1024 + (p : ℕ)) (j : Fin 64) :
    k4_pay11 (iblk4 V c 0 t) (V c main_v19) (iblk4 V c 2 t) (ix2 p j) = gate4 V c r j := by
  obtain ⟨r0, r2, _⟩ := rows4 V c t p r h
  refine (k4_pay11_apply _ _ _ p j).trans (squash_congr (fun j => ?_) j)
  simp only [r0, r2]

/-- The first column of scores. -/
theorem readout_1 (c : Dev nD) :
    (dat4 V c).arrAt 12 cfg4.N = fun i => bil (mat (φ := .f32) (V c main_v19)) (mat (φ := .f32) (V c main_v9)) (gate4 V c) (V c main_v8 (ix2 0 0)) (i 0) := by
  refine (dat4 V c).arrAt_eq_of_covers 12 _ (by decide +kernel) fun t hf y => ?_
  obtain ⟨w1, w7, w8, w9, w10, w11⟩ := whole4 V c t
  obtain ⟨-, -, -, -, -, -, e12, e13, e14⟩ := idx4_rows t
  blk_simp
  rw [after4_12]; frame_out
  generalize hi : ((View.whole main_v21_0).slice (win4_12.rect t)).emb y = i
  have h0 : (i 0 : ℕ) = t.val * 1024 + (y 0 : ℕ) := by subst hi; blk_simp [e12]
  obtain ⟨r0, r2, r3, r4, r5, r6⟩ := rows4 V c t (y 0) (i 0) h0
  rw [w1, w7, w8]
  have hy : y = ix2 (y 0) 0 := by blk_ext
  refine (congrArg _ hy).trans ((k4_pay18_apply _ _ _ _ _ _ (y 0)).trans ?_)
  simp only [r4, gate4_apply V c t (y 0) (i 0) h0]
  rfl

/-- The second column of scores. -/
theorem readout_2 (c : Dev nD) :
    (dat4 V c).arrAt 13 cfg4.N = fun i => bil (mat (φ := .f32) (V c main_v20)) (mat (φ := .f32) (V c main_v9)) (gate4 V c) (V c main_v8 (ix2 0 0)) (i 0) := by
  refine (dat4 V c).arrAt_eq_of_covers 13 _ (by decide +kernel) fun t hf y => ?_
  obtain ⟨w1, w7, w8, w9, w10, w11⟩ := whole4 V c t
  obtain ⟨-, -, -, -, -, -, e12, e13, e14⟩ := idx4_rows t
  blk_simp
  rw [after4_13]; frame_out
  generalize hi : ((View.whole main_v21_1).slice (win4_13.rect t)).emb y = i
  have h0 : (i 0 : ℕ) = t.val * 1024 + (y 0 : ℕ) := by subst hi; blk_simp [e13]
  obtain ⟨r0, r2, r3, r4, r5, r6⟩ := rows4 V c t (y 0) (i 0) h0
  rw [w1, w7, w8]
  have hy : y = ix2 (y 0) 0 := by blk_ext
  refine (congrArg _ hy).trans ((k4_pay19_apply _ _ _ _ (y 0)).trans ?_)
  simp only [r5, gate4_apply V c t (y 0) (i 0) h0]
  rfl

/-- What a point leaves of the mixed rows. -/
theorem after_mix (c : Dev nD) (t : Fin cfg4.N) : (dat4 V c).after 14 t =
    k4_pay10 (k4_pay12 (iblk4 V c 3 t)) (k4_pay13 (iblk4 V c 4 t)) (k4_pay14 (iblk4 V c 6 t)) (k4_pay22 (k4_pay12 (iblk4 V c 3 t)) (iblk4 V c 9 t) (iblk4 V c 10 t) (iblk4 V c 11 t))
      (k4_pay23 (k4_pay13 (iblk4 V c 4 t)) (iblk4 V c 9 t) (iblk4 V c 10 t) (iblk4 V c 11 t)) (k4_pay24 (k4_pay14 (iblk4 V c 6 t)) (iblk4 V c 9 t) (iblk4 V c 10 t) (iblk4 V c 11 t)) := by
  rw [after4_14]; frame_out
  unfold k4_pay28 k4_pay29 k4_pay30 k4_pay25 k4_pay26 k4_pay27
  frame_out

theorem after_mix_apply (c : Dev nD) (t : Fin cfg4.N) (p : Fin 1024) (r : Fin 4096) (h : (r : ℕ) = t.val * 1024 + (p : ℕ)) (j : Fin 64) :
    (dat4 V c).after 14 t (ix2 p j) = mix (mat (φ := .f32) (V c main_v18_0)) (mat (φ := .f32) (V c main_v19)) (mat (φ := .f32) (V c main_v18_2))
      (mat (φ := .f32) (V c main_arg15)) (lane (φ := .f32) (V c main_v6)) (lane (φ := .f32) (V c main_v7)) r j := by
  obtain ⟨w1, w7, w8, w9, w10, w11⟩ := whole4 V c t
  obtain ⟨r0, r2, r3, r4, r5, r6⟩ := rows4 V c t p r h
  rw [after_mix, w9, w10, w11]
  exact (k4_mix_apply _ _ _ _ _ _ p j).trans (mix_congr r3 r4 r6 _ _ _ j)

/-- The mixed rows. -/
theorem readout_mix (c : Dev nD) :
    (dat4 V c).arrAt 14 cfg4.N = fun i => mix (mat (φ := .f32) (V c main_v18_0)) (mat (φ := .f32) (V c main_v19)) (mat (φ := .f32) (V c main_v18_2))
      (mat (φ := .f32) (V c main_arg15)) (lane (φ := .f32) (V c main_v6)) (lane (φ := .f32) (V c main_v7)) (i 0) (i 1) := by
  refine (dat4 V c).arrAt_eq_of_covers 14 _ (by decide +kernel) fun t hf y => ?_
  obtain ⟨-, -, -, -, -, -, e12, e13, e14⟩ := idx4_rows t
  blk_simp
  generalize hi : ((View.whole main_v21_2).slice (win4_14.rect t)).emb y = i
  have h0 : (i 0 : ℕ) = t.val * 1024 + (y 0 : ℕ) := by subst hi; blk_simp [e14]
  have h1 : i 1 = y 1 := by subst hi; apply Fin.ext; blk_simp [e14]
  refine (congrArg _ (eq_ix2 y)).trans ((after_mix_apply V c t (y 0) (i 0) h0 (y 1)).trans ?_)
  exact mix_at (fun _ => rfl) (fun _ => rfl) (fun _ => rfl) h1 _ _ _

end Cert.KernelSide

end
-- ==== Proof.Chain.lean ====
/-
  The five calls and the host's operations between them, one after another: what the kernel's two results hold at the
  end, as the graph encoder's mathematics over the arguments at launch.
-/
module

public import proofs.«01_k».proof.Proof.Entry
public import proofs.«01_k».proof.Proof.Sums
public import proofs.«01_k».proof.Proof.Layer1
public import proofs.«01_k».proof.Proof.Middle
public import proofs.«01_k».proof.Proof.Layer3
public import proofs.«01_k».proof.Proof.Readout

@[expose] public section

set_option maxRecDepth 16384

noncomputable section

namespace Cert.Spec

open Idealize.ShloMosaic

variable {n k l p : ℕ} {φ : FTy}

/-- The columns `e` of an aggregation, from the entries it reads. -/
theorem layV_pick (e : Fin p → Fin l) {a : FVec Ideal ⟨2, ![n, n]⟩ φ} {y : FVec Ideal ⟨2, ![n, l]⟩ φ} {d : FVec Ideal ⟨2, ![n, 1]⟩ .f32}
    {b : FVec Ideal ⟨2, ![1, l]⟩ .f32} {A : Mat n n} {Y : Mat n p} {D : Fin n → EReal} {B : Fin p → EReal} (hA : mat a = A)
    (hY : ∀ r j, y (ix2 r (e j)) = Y r j) (hD : ∀ r, d (ix2 r 0) = D r) (hB : ∀ j, b (ix2 0 (e j)) = B j) (r : Fin n) (j : Fin p) :
    layV a y d b (ix2 r (e j)) = lay A Y D B r j := by
  obtain rfl : (fun r j => y (ix2 r (e j))) = Y := funext fun r => funext (hY r)
  obtain rfl : (fun r => d (ix2 r 0)) = D := funext hD
  obtain rfl : (fun j => b (ix2 0 (e j))) = B := funext hB
  subst hA
  rfl

/-- What lies between two aggregations, from the entries it reads. -/
theorem midV_eq {h : FVec Ideal ⟨2, ![n, k]⟩ .f32} {g b : FVec Ideal ⟨2, ![1, k]⟩ .f32} {w : FVec Ideal ⟨2, ![k, l]⟩ .f32} {d : FVec Ideal ⟨2, ![n, 1]⟩ .f32}
    {H : Mat n k} {G B : Fin k → EReal} {W : Mat k l} {D : Fin n → EReal} (hH : mat h = H) (hG : lane g = G) (hB : lane b = B) (hW : mat w = W)
    (hD : ∀ r, d (ix2 r 0) = D r) (r : Fin n) (j : Fin l) : midV φ h g b w d (ix2 r j) = mid H G B W D r j := by
  obtain rfl : (fun r => d (ix2 r 0)) = D := funext hD
  subst hH hG hB hW
  rfl

end Cert.Spec

namespace Cert.KernelSide

open Cert.KernelIdeal Cert.KernelIdeal.Gen Cert.Spec Idealize.ShloMosaic Idealize.ShloMosaic.TcCoe

variable (m : (ℓ : Loc nD τ sig) → Buf (Elt Ideal) ℓ) (ρ : Dev nD → PrngReg) (c : Dev nD)

/-! ## The arguments at launch, by their entries -/

/-- The adjacency of the first view. -/
abbrev aF : Mat 4096 4096 := mat (φ := .f32) (m ((c.tc : Thread nD τ).loc main_arg2))
/-- The adjacency of the second view. -/
abbrev aT : Mat 4096 4096 := mat (φ := .f32) (m ((c.tc : Thread nD τ).loc main_arg3))
/-- The adjacency of the third view. -/
abbrev aI : Mat 4096 4096 := mat (φ := .f32) (m ((c.tc : Thread nD τ).loc main_arg4))
/-- The features. -/
abbrev x0 : Mat 4096 128 := mat (φ := .f32) (m ((c.tc : Thread nD τ).loc main_arg0))
/-- The shuffled features. -/
abbrev x1 : Mat 4096 128 := mat (φ := .f32) (m ((c.tc : Thread nD τ).loc main_arg1))
/-- The first layer's weight. -/
abbrev w1 : Mat 128 128 := mat (φ := .f32) (m ((c.tc : Thread nD τ).loc main_arg5))
/-- The first layer's bias. -/
abbrev b1 : Fin 128 → EReal := row (φ := .f32) (m ((c.tc : Thread nD τ).loc main_arg6))
/-- The second layer's weight. -/
abbrev w2 : Mat 128 64 := mat (φ := .f32) (m ((c.tc : Thread nD τ).loc main_arg7))
/-- The second layer's bias. -/
abbrev b2 : Fin 64 → EReal := row (φ := .f32) (m ((c.tc : Thread nD τ).loc main_arg8))
/-- The normalisation's gain. -/
abbrev gg : Fin 128 → EReal := row (φ := .f32) (m ((c.tc : Thread nD τ).loc main_arg13))
/-- The normalisation's offset. -/
abbrev bt : Fin 128 → EReal := row (φ := .f32) (m ((c.tc : Thread nD τ).loc main_arg14))
/-- A first layer. -/
abbrev one (a : Mat 4096 4096) (x : Mat 4096 128) : Mat 4096 128 := gcn a x (w1 m c) (b1 m c)
/-- The rows that a second layer aggregates. -/
abbrev two' (a : Mat 4096 4096) (x : Mat 4096 128) : Mat 4096 64 := pre a (bnr (one m c a x) (gg m c) (bt m c)) (w2 m c)
/-- An encoded view. -/
abbrev view (a : Mat 4096 4096) (x : Mat 4096 128) : Mat 4096 64 := enc a x (w1 m c) (b1 m c) (gg m c) (bt m c) (w2 m c) (b2 m c)

/-! ## What stays as it was -/

/-- What neither the second call nor the host before it writes. -/
theorem keep4 (r : Ref sig .tc) (h4 : ∀ w : Fin cfg1.W, Pipeline.arrRef spec1 w = r → (cfg1.win w).isOut = false) (h3 : r ∉ hostOps1_W) :
    W4 m ρ c (Proc.devRef .tc r) = W2 m ρ c (Proc.devRef .tc r) := (W4_of m ρ c r h4).trans (W3_of m ρ c r h3)

/-- What nothing writes between the first call and the fourth. -/
theorem keep6 (r : Ref sig .tc) (h6 : r ∉ hostOps3_W) (h5 : ∀ w : Fin cfg2.W, Pipeline.arrRef spec2 w = r → (cfg2.win w).isOut = false)
    (h4 : ∀ w : Fin cfg1.W, Pipeline.arrRef spec1 w = r → (cfg1.win w).isOut = false) (h3 : r ∉ hostOps1_W) :
    W6 m ρ c (Proc.devRef .tc r) = W2 m ρ c (Proc.devRef .tc r) :=
  (W6_of m ρ c r h6).trans ((W5_of m ρ c r h5).trans (keep4 m ρ c r h4 h3))

/-- What nothing writes between the first call and the fifth. -/
theorem keep8 (r : Ref sig .tc) (h8 : r ∉ hostOps4_W) (h7 : ∀ w : Fin cfg3.W, Pipeline.arrRef spec3 w = r → (cfg3.win w).isOut = false)
    (h6 : r ∉ hostOps3_W) (h5 : ∀ w : Fin cfg2.W, Pipeline.arrRef spec2 w = r → (cfg2.win w).isOut = false)
    (h4 : ∀ w : Fin cfg1.W, Pipeline.arrRef spec1 w = r → (cfg1.win w).isOut = false) (h3 : r ∉ hostOps1_W) :
    W8 m ρ c (Proc.devRef .tc r) = W2 m ρ c (Proc.devRef .tc r) :=
  (W8_of m ρ c r h8).trans ((W7_of m ρ c r h7).trans (keep6 m ρ c r h6 h5 h4 h3))

/-- The second call's scales at the third and the fourth. -/
theorem keepd (r : Ref sig .tc) (h6 : r ∉ hostOps3_W) (h5 : ∀ w : Fin cfg2.W, Pipeline.arrRef spec2 w = r → (cfg2.win w).isOut = false)
    (h4 : ∀ w : Fin cfg1.W, Pipeline.arrRef spec1 w = r → (cfg1.win w).isOut = false) :
    W4 m ρ c (Proc.devRef .tc r) = W3 m ρ c (Proc.devRef .tc r) ∧ W6 m ρ c (Proc.devRef .tc r) = W3 m ρ c (Proc.devRef .tc r) :=
  ⟨W4_of m ρ c r h4, (W6_of m ρ c r h6).trans ((W5_of m ρ c r h5).trans (W4_of m ρ c r h4))⟩

/-! ## After the first call -/

theorem adj_f : mat (φ := .bf16) (W2 m ρ c (Proc.devRef .tc main_v10_4)) = aF m c := funext fun r => funext fun j =>
  (congrFun ((W2_arr m ρ c 10).trans (copy_f (V1 m ρ) c)) (ix2 r j)).trans (congrFun (W1_args m ρ c main_arg2 (by decide)) (ix2 r j))
theorem adj_t : mat (φ := .bf16) (W2 m ρ c (Proc.devRef .tc main_v10_5)) = aT m c := funext fun r => funext fun j =>
  (congrFun ((W2_arr m ρ c 11).trans (copy_t (V1 m ρ) c)) (ix2 r j)).trans (congrFun (W1_args m ρ c main_arg3 (by decide)) (ix2 r j))
theorem adj_i : mat (φ := .bf16) (W2 m ρ c (Proc.devRef .tc main_v10_6)) = aI m c := funext fun r => funext fun j =>
  (congrFun ((W2_arr m ρ c 12).trans (copy_i (V1 m ρ) c)) (ix2 r j)).trans (congrFun (W1_args m ρ c main_arg4 (by decide)) (ix2 r j))

theorem in_f : mat (φ := .f32) (V1 m ρ c main_arg2) = aF m c := congrArg (mat (φ := .f32)) (W1_args m ρ c main_arg2 (by decide))
theorem in_t : mat (φ := .f32) (V1 m ρ c main_arg3) = aT m c := congrArg (mat (φ := .f32)) (W1_args m ρ c main_arg3 (by decide))
theorem in_i : mat (φ := .f32) (V1 m ρ c main_arg4) = aI m c := congrArg (mat (φ := .f32)) (W1_args m ρ c main_arg4 (by decide))
theorem in_0 : mat (φ := .f32) (V1 m ρ c main_arg0) = x0 m c := congrArg (mat (φ := .f32)) (W1_args m ρ c main_arg0 (by decide))
theorem in_1 : mat (φ := .f32) (V1 m ρ c main_arg1) = x1 m c := congrArg (mat (φ := .f32)) (W1_args m ρ c main_arg1 (by decide))
theorem in_w : mat (φ := .f32) (V1 m ρ c main_arg5) = w1 m c := congrArg (mat (φ := .f32)) (W1_args m ρ c main_arg5 (by decide))

/-- The scales, as the columns that the later calls read. -/
theorem dis_f (r : Fin 4096) : W3 m ρ c (Proc.devRef .tc main_v11) (ix2 r 0) = Spec.inv (deg (aF m c) r) :=
  (col_f m ρ c r).trans ((congrFun ((W2_arr m ρ c 6).trans (scale_f (V1 m ρ) c)) (ix2 0 r)).trans (congrArg (fun a => Spec.inv (deg a r)) (in_f m ρ c)))
theorem dis_t (r : Fin 4096) : W3 m ρ c (Proc.devRef .tc main_v12) (ix2 r 0) = Spec.inv (deg (aT m c) r) :=
  (col_t m ρ c r).trans ((congrFun ((W2_arr m ρ c 7).trans (scale_t (V1 m ρ) c)) (ix2 0 r)).trans (congrArg (fun a => Spec.inv (deg a r)) (in_t m ρ c)))
theorem dis_i (r : Fin 4096) : W3 m ρ c (Proc.devRef .tc main_v13) (ix2 r 0) = Spec.inv (deg (aI m c) r) :=
  (col_i m ρ c r).trans ((congrFun ((W2_arr m ρ c 8).trans (scale_i (V1 m ρ) c)) (ix2 0 r)).trans (congrArg (fun a => Spec.inv (deg a r)) (in_i m ρ c)))

theorem pre_f (r : Fin 4096) (j : Fin 128) : W2 m ρ c (Proc.devRef .tc main_v10_7) (ix2 r j) = pre (aF m c) (x0 m c) (w1 m c) r j := by
  refine (congrFun ((W2_arr m ρ c 13).trans (scaled_f (V1 m ρ) c)) (ix2 r j)).trans ?_
  rw [in_f, in_0, in_w]
  rfl
theorem pre_i (r : Fin 4096) (j : Fin 128) : W2 m ρ c (Proc.devRef .tc main_v10_9) (ix2 r j) = pre (aI m c) (x0 m c) (w1 m c) r j := by
  refine (congrFun ((W2_arr m ρ c 15).trans (scaled_i (V1 m ρ) c)) (ix2 r j)).trans ?_
  rw [in_i, in_0, in_w]
  rfl
theorem pre_t (r : Fin 4096) (j : Fin 128) : W2 m ρ c (Proc.devRef .tc main_v10_8) (ix2 r (lef j)) = pre (aT m c) (x0 m c) (w1 m c) r j
    ∧ W2 m ρ c (Proc.devRef .tc main_v10_8) (ix2 r (rig j)) = pre (aT m c) (x1 m c) (w1 m c) r j := by
  have h := scaled_t (V1 m ρ) c r j
  rw [in_t, in_0, in_1, in_w] at h
  exact ⟨(congrFun (W2_arr m ρ c 14) _).trans h.1, (congrFun (W2_arr m ρ c 14) _).trans h.2⟩

theorem sum_t (r : Fin 4096) : W2 m ρ c (Proc.devRef .tc main_v10_3) (ix2 r 0) = ∑ j, aT m c r j :=
  (congrFun ((W2_arr m ρ c 9).trans (row_sums (V1 m ρ) c)) (ix2 r 0)).trans (congrArg (fun a : Mat 4096 4096 => ∑ j, a r j) (in_t m ρ c))

/-- The first bias after the first call. -/
theorem bias_1 (j : Fin 128) : W2 m ρ c (Proc.devRef .tc main_v2) (ix2 0 j) = b1 m c j :=
  (congrFun (W2_of m ρ c main_v2 (by decide)) (ix2 0 j)).trans (congrFun (row_b1 m ρ c) j)
/-- The second bias after the first call. -/
theorem bias_2 (j : Fin 64) : W2 m ρ c (Proc.devRef .tc main_v3) (ix2 0 j) = b2 m c j :=
  (congrFun (W2_of m ρ c main_v3 (by decide)) (ix2 0 j)).trans (congrFun (row_b2 m ρ c) j)

/-! ## After the second call: the first layer -/

theorem one_f : mat (φ := .f32) (W4 m ρ c (Proc.devRef .tc main_v15_0)) = one m c (aF m c) (x0 m c) := funext fun r => funext fun j =>
  (congrFun ((W4_arr m ρ c 12).trans (layer1_f (V3 m ρ) c)) (ix2 r j)).trans
    (layV_pick id ((congrArg (mat (φ := .bf16)) (W3_of m ρ c main_v10_4 (by decide))).trans (adj_f m ρ c))
      (fun r j => (congrFun (W3_of m ρ c main_v10_7 (by decide)) _).trans (pre_f m ρ c r j)) (dis_f m ρ c)
      (fun j => (congrFun (W3_of m ρ c main_v2 (by decide)) _).trans (bias_1 m ρ c j)) r j)

theorem one_i : mat (φ := .f32) (W4 m ρ c (Proc.devRef .tc main_v15_2)) = one m c (aI m c) (x0 m c) := funext fun r => funext fun j =>
  (congrFun ((W4_arr m ρ c 14).trans (layer1_i (V3 m ρ) c)) (ix2 r j)).trans
    (layV_pick id ((congrArg (mat (φ := .bf16)) (W3_of m ρ c main_v10_6 (by decide))).trans (adj_i m ρ c))
      (fun r j => (congrFun (W3_of m ρ c main_v10_9 (by decide)) _).trans (pre_i m ρ c r j)) (dis_i m ρ c)
      (fun j => (congrFun (W3_of m ρ c main_v2 (by decide)) _).trans (bias_1 m ρ c j)) r j)

theorem one_t : mat (φ := .f32) (cut lef (W4 m ρ c (Proc.devRef .tc main_v15_1))) = one m c (aT m c) (x0 m c) := funext fun r => funext fun j =>
  (congrFun ((W4_arr m ρ c 13).trans (layer1_t (V3 m ρ) c)) (ix2 r (lef j))).trans
    (layV_pick lef ((congrArg (mat (φ := .bf16)) (W3_of m ρ c main_v10_5 (by decide))).trans (adj_t m ρ c))
      (fun r j => (congrFun (W3_of m ρ c main_v10_8 (by decide)) _).trans (pre_t m ρ c r j).1) (dis_t m ρ c)
      (fun j => (twice_b1 m ρ c j).1.trans (bias_1 m ρ c j)) r j)

theorem one_ta : mat (φ := .f32) (cut rig (W4 m ρ c (Proc.devRef .tc main_v15_1))) = one m c (aT m c) (x1 m c) := funext fun r => funext fun j =>
  (congrFun ((W4_arr m ρ c 13).trans (layer1_t (V3 m ρ) c)) (ix2 r (rig j))).trans
    (layV_pick rig ((congrArg (mat (φ := .bf16)) (W3_of m ρ c main_v10_5 (by decide))).trans (adj_t m ρ c))
      (fun r j => (congrFun (W3_of m ρ c main_v10_8 (by decide)) _).trans (pre_t m ρ c r j).2) (dis_t m ρ c)
      (fun j => (twice_b1 m ρ c j).2.trans (bias_1 m ρ c j)) r j)

/-! ## After the third call: what the second layer aggregates -/

theorem gain4 : lane (φ := .f32) (W4 m ρ c (Proc.devRef .tc main_v0)) = gg m c :=
  (congrArg (lane (φ := .f32)) ((keep4 m ρ c main_v0 (by decide) (by decide)).trans (W2_of m ρ c main_v0 (by decide)))).trans (row_gain m ρ c)
theorem offset4 : lane (φ := .f32) (W4 m ρ c (Proc.devRef .tc main_v1)) = bt m c :=
  (congrArg (lane (φ := .f32)) ((keep4 m ρ c main_v1 (by decide) (by decide)).trans (W2_of m ρ c main_v1 (by decide)))).trans (row_offset m ρ c)
theorem weight4 : mat (φ := .f32) (W4 m ρ c (Proc.devRef .tc main_arg7)) = w2 m c := congrArg (mat (φ := .f32)) (W4_args m ρ c main_arg7 (by decide))

theorem two_f (r : Fin 4096) (j : Fin 64) : W5 m ρ c (Proc.devRef .tc main_v16_0) (ix2 r j) = two' m c (aF m c) (x0 m c) r j :=
  (congrFun ((W5_arr m ρ c 9).trans (middle_f (V4 m ρ) c)) (ix2 r j)).trans
    (midV_eq (one_f m ρ c) (gain4 m ρ c) (offset4 m ρ c) (weight4 m ρ c)
      (fun r => (congrFun (keepd m ρ c main_v11 (by decide) (by decide) (by decide)).1 _).trans (dis_f m ρ c r)) r j)

theorem two_i (r : Fin 4096) (j : Fin 64) : W5 m ρ c (Proc.devRef .tc main_v16_2) (ix2 r j) = two' m c (aI m c) (x0 m c) r j :=
  (congrFun ((W5_arr m ρ c 11).trans (middle_i (V4 m ρ) c)) (ix2 r j)).trans
    (midV_eq (one_i m ρ c) (gain4 m ρ c) (offset4 m ρ c) (weight4 m ρ c)
      (fun r => (congrFun (keepd m ρ c main_v13 (by decide) (by decide) (by decide)).1 _).trans (dis_i m ρ c r)) r j)

theorem two_t (r : Fin 4096) (j : Fin 64) : W5 m ρ c (Proc.devRef .tc main_v16_1) (ix2 r (lef' j)) = two' m c (aT m c) (x0 m c) r j :=
  (congrFun ((W5_arr m ρ c 10).trans (middle_t (V4 m ρ) c)) (ix2 r (lef' j))).trans ((two_apply _ _ r j).1.trans
    (midV_eq (one_t m ρ c) (gain4 m ρ c) (offset4 m ρ c) (weight4 m ρ c)
      (fun r => (congrFun (keepd m ρ c main_v12 (by decide) (by decide) (by decide)).1 _).trans (dis_t m ρ c r)) r j))

theorem two_ta (r : Fin 4096) (j : Fin 64) : W5 m ρ c (Proc.devRef .tc main_v16_1) (ix2 r (rig' j)) = two' m c (aT m c) (x1 m c) r j :=
  (congrFun ((W5_arr m ρ c 10).trans (middle_t (V4 m ρ) c)) (ix2 r (rig' j))).trans ((two_apply _ _ r j).2.trans
    (midV_eq (one_ta m ρ c) (gain4 m ρ c) (offset4 m ρ c) (weight4 m ρ c)
      (fun r => (congrFun (keepd m ρ c main_v12 (by decide) (by decide) (by decide)).1 _).trans (dis_t m ρ c r)) r j))

/-! ## After the fourth call: the encoded views -/

/-- The second bias at the fourth call. -/
theorem bias5 (j : Fin 64) : W5 m ρ c (Proc.devRef .tc main_v3) (ix2 0 j) = b2 m c j :=
  (congrFun ((W5_of m ρ c main_v3 (by decide)).trans (keep4 m ρ c main_v3 (by decide) (by decide))) _).trans (bias_2 m ρ c j)

theorem enc_f : mat (φ := .f32) (W7 m ρ c (Proc.devRef .tc main_v18_0)) = view m c (aF m c) (x0 m c) := funext fun r => funext fun j =>
  (congrFun ((W7_arr m ρ c 12).trans (layer3_f (V6 m ρ) c)) (ix2 r j)).trans
    (layV_pick id ((congrArg (mat (φ := .bf16)) (keep6 m ρ c main_v10_4 (by decide) (by decide) (by decide) (by decide))).trans (adj_f m ρ c))
      (fun r j => (congrFun (W6_of m ρ c main_v16_0 (by decide)) _).trans (two_f m ρ c r j))
      (fun r => (congrFun (keepd m ρ c main_v11 (by decide) (by decide) (by decide)).2 _).trans (dis_f m ρ c r))
      (fun j => (congrFun (W6_of m ρ c main_v3 (by decide)) _).trans (bias5 m ρ c j)) r j)

theorem enc_i : mat (φ := .f32) (W7 m ρ c (Proc.devRef .tc main_v18_2)) = view m c (aI m c) (x0 m c) := funext fun r => funext fun j =>
  (congrFun ((W7_arr m ρ c 14).trans (layer3_i (V6 m ρ) c)) (ix2 r j)).trans
    (layV_pick id ((congrArg (mat (φ := .bf16)) (keep6 m ρ c main_v10_6 (by decide) (by decide) (by decide) (by decide))).trans (adj_i m ρ c))
      (fun r j => (congrFun (W6_of m ρ c main_v16_2 (by decide)) _).trans (two_i m ρ c r j))
      (fun r => (congrFun (keepd m ρ c main_v13 (by decide) (by decide) (by decide)).2 _).trans (dis_i m ρ c r))
      (fun j => (congrFun (W6_of m ρ c main_v3 (by decide)) _).trans (bias5 m ρ c j)) r j)

theorem enc_t (r : Fin 4096) (j : Fin 64) : W7 m ρ c (Proc.devRef .tc main_v18_1) (ix2 r (lef' j)) = view m c (aT m c) (x0 m c) r j :=
  (congrFun ((W7_arr m ρ c 13).trans (layer3_t (V6 m ρ) c)) (ix2 r (lef' j))).trans
    (layV_pick lef' ((congrArg (mat (φ := .bf16)) (keep6 m ρ c main_v10_5 (by decide) (by decide) (by decide) (by decide))).trans (adj_t m ρ c))
      (fun r j => (congrFun (W6_of m ρ c main_v16_1 (by decide)) _).trans (two_t m ρ c r j))
      (fun r => (congrFun (keepd m ρ c main_v12 (by decide) (by decide) (by decide)).2 _).trans (dis_t m ρ c r))
      (fun j => (twice_b2 m ρ c j).1.trans (bias5 m ρ c j)) r j)

theorem enc_ta (r : Fin 4096) (j : Fin 64) : W7 m ρ c (Proc.devRef .tc main_v18_1) (ix2 r (rig' j)) = view m c (aT m c) (x1 m c) r j :=
  (congrFun ((W7_arr m ρ c 13).trans (layer3_t (V6 m ρ) c)) (ix2 r (rig' j))).trans
    (layV_pick rig' ((congrArg (mat (φ := .bf16)) (keep6 m ρ c main_v10_5 (by decide) (by decide) (by decide) (by decide))).trans (adj_t m ρ c))
      (fun r j => (congrFun (W6_of m ρ c main_v16_1 (by decide)) _).trans (two_ta m ρ c r j))
      (fun r => (congrFun (keepd m ρ c main_v12 (by decide) (by decide) (by decide)).2 _).trans (dis_t m ρ c r))
      (fun j => (twice_b2 m ρ c j).2.trans (bias5 m ρ c j)) r j)

/-! ## After the fifth call: the results -/

theorem read_t : mat (φ := .f32) (V8 m ρ c main_v19) = view m c (aT m c) (x0 m c) := funext fun r => funext fun j => (half_t m ρ c r j).trans (enc_t m ρ c r j)
theorem read_ta : mat (φ := .f32) (V8 m ρ c main_v20) = view m c (aT m c) (x1 m c) := funext fun r => funext fun j => (half_ta m ρ c r j).trans (enc_ta m ρ c r j)
theorem read_f : mat (φ := .f32) (V8 m ρ c main_v18_0) = view m c (aF m c) (x0 m c) := (congrArg (mat (φ := .f32)) (W8_of m ρ c main_v18_0 (by decide))).trans (enc_f m ρ c)
theorem read_i : mat (φ := .f32) (V8 m ρ c main_v18_2) = view m c (aI m c) (x0 m c) := (congrArg (mat (φ := .f32)) (W8_of m ρ c main_v18_2 (by decide))).trans (enc_i m ρ c)

/-- An array that the host prepares before the first call, at the fifth. -/
theorem keep8' (r : Ref sig .tc) (h8 : r ∉ hostOps4_W) (h7 : ∀ w : Fin cfg3.W, Pipeline.arrRef spec3 w = r → (cfg3.win w).isOut = false)
    (h6 : r ∉ hostOps3_W) (h5 : ∀ w : Fin cfg2.W, Pipeline.arrRef spec2 w = r → (cfg2.win w).isOut = false)
    (h4 : ∀ w : Fin cfg1.W, Pipeline.arrRef spec1 w = r → (cfg1.win w).isOut = false) (h3 : r ∉ hostOps1_W)
    (h2 : ∀ w : Fin cfg0.W, Pipeline.arrRef spec0 w = r → (cfg0.win w).isOut = false) :
    W8 m ρ c (Proc.devRef .tc r) = W1 m ρ c (Proc.devRef .tc r) :=
  (keep8 m ρ c r h8 h7 h6 h5 h4 h3).trans (W2_of m ρ c r h2)

theorem read_wb : mat (φ := .f32) (V8 m ρ c main_v9) = fun i j => m ((c.tc : Thread nD τ).loc main_arg18) (ix3 0 i j) :=
  (congrArg (mat (φ := .f32)) (keep8' m ρ c main_v9 (by decide) (by decide) (by decide) (by decide) (by decide) (by decide) (by decide))).trans
    (funext fun i => funext fun j => mat_wb m ρ c i j)
theorem read_bb : V8 m ρ c main_v8 (ix2 0 0) = m ((c.tc : Thread nD τ).loc main_arg19) (ix1 0) :=
  (congrFun (keep8' m ρ c main_v8 (by decide) (by decide) (by decide) (by decide) (by decide) (by decide) (by decide)) _).trans (one_bb m ρ c)
theorem read_ba : lane (φ := .f32) (V8 m ρ c main_v6) = row (φ := .f32) (m ((c.tc : Thread nD τ).loc main_arg16)) :=
  (congrArg (lane (φ := .f32)) (keep8' m ρ c main_v6 (by decide) (by decide) (by decide) (by decide) (by decide) (by decide) (by decide))).trans (row_ba m ρ c)
theorem read_va : lane (φ := .f32) (V8 m ρ c main_v7) = col (φ := .f32) (m ((c.tc : Thread nD τ).loc main_arg17)) :=
  (congrArg (lane (φ := .f32)) (keep8' m ρ c main_v7 (by decide) (by decide) (by decide) (by decide) (by decide) (by decide) (by decide))).trans (row_wa m ρ c)
theorem read_wa : mat (φ := .f32) (V8 m ρ c main_arg15) = mat (φ := .f32) (m ((c.tc : Thread nD τ).loc main_arg15)) :=
  congrArg (mat (φ := .f32)) (W8_args m ρ c main_arg15 (by decide))

/-- The squashed neighbourhood averages that the fifth call computes. -/
theorem gate_eq : gate4 (V8 m ρ) c = squash (avg (aT m c) (view m c (aT m c) (x0 m c))) := by
  have ha : mat (φ := .bf16) (V8 m ρ c main_v10_5) = aT m c :=
    (congrArg (mat (φ := .bf16)) (keep8 m ρ c main_v10_5 (by decide) (by decide) (by decide) (by decide) (by decide) (by decide))).trans (adj_t m ρ c)
  have hs (r : Fin 4096) : V8 m ρ c main_v10_3 (ix2 r 0) = ∑ j, aT m c r j :=
    (congrFun (keep8 m ρ c main_v10_3 (by decide) (by decide) (by decide) (by decide) (by decide) (by decide)) _).trans (sum_t m ρ c r)
  unfold gate4 gate
  refine congrArg squash (funext fun r => funext fun j => ?_)
  rw [hs r]
  exact congrArg (fun s => Ideal.div s (∑ j, aT m c r j))
    (Finset.sum_congr rfl fun i _ => congrArg₂ (· * ·) (congrFun (congrFun ha r) i) (congrFun (congrFun (read_t m ρ c) i) j))

/-- The first result: the three views mixed by their attention. -/
theorem result_1 (r : Fin 4096) (j : Fin 64) : W10 m ρ c (Proc.devRef .tc main_v21_2) (ix2 r j) =
    mix (view m c (aF m c) (x0 m c)) (view m c (aT m c) (x0 m c)) (view m c (aI m c) (x0 m c)) (mat (φ := .f32) (m ((c.tc : Thread nD τ).loc main_arg15)))
      (row (φ := .f32) (m ((c.tc : Thread nD τ).loc main_arg16))) (col (φ := .f32) (m ((c.tc : Thread nD τ).loc main_arg17))) r j := by
  refine (congrFun ((W10_of m ρ c main_v21_2 (by decide)).trans ((W9_arr m ρ c 14).trans (readout_mix (V8 m ρ) c))) (ix2 r j)).trans ?_
  rw [read_f, read_t, read_i, read_wa, read_ba, read_va]
  rfl

/-- The third result: the scores of the view, and of its shuffled twin, against the neighbourhood averages. -/
theorem result_3 (r : Fin 4096) :
    W10 m ρ c (Proc.devRef .tc main_v22) (ix2 r 0) = judge (aT m c) (view m c (aT m c) (x0 m c)) (view m c (aT m c) (x0 m c))
      (fun i j => m ((c.tc : Thread nD τ).loc main_arg18) (ix3 0 i j)) (m ((c.tc : Thread nD τ).loc main_arg19) (ix1 0)) r
    ∧ W10 m ρ c (Proc.devRef .tc main_v22) (ix2 r 1) = judge (aT m c) (view m c (aT m c) (x0 m c)) (view m c (aT m c) (x1 m c))
      (fun i j => m ((c.tc : Thread nD τ).loc main_arg18) (ix3 0 i j)) (m ((c.tc : Thread nD τ).loc main_arg19) (ix1 0)) r := by
  obtain ⟨p, q⟩ := cols_ret m ρ c r
  constructor
  · refine p.trans ((congrFun ((W9_arr m ρ c 12).trans (readout_1 (V8 m ρ) c)) (ix2 r 0)).trans ?_)
    rw [read_t, read_wb, read_bb, gate_eq]
    rfl
  · refine q.trans ((congrFun ((W9_arr m ρ c 13).trans (readout_2 (V8 m ρ) c)) (ix2 r 0)).trans ?_)
    rw [read_ta, read_wb, read_bb, gate_eq]
    rfl

end Cert.KernelSide

end
-- ==== Proof.KernelRun.lean ====
/-
  The kernel's run: every execution ends, nothing faulting, with every array at the contents that the last of the host's
  operations leaves.
-/
module

public import proofs.«01_k».proof.Proof.Gen.KernelIdeal.Frame
public import proofs.«01_k».proof.Proof.Chain

@[expose] public section

set_option maxRecDepth 16384

noncomputable section

namespace Cert.KernelSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every unscoped array at its last contents. -/
theorem run_ends : θ_run defs (onTc (τ := τ) (main (F := Ideal))) ⟨m, fun _ => 0, ρ⟩ (fun r => ∀ c : Dev nD, ∀ b ∈ Pipeline.ucRefs τ sig,
      r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => h)

/-- Every execution ends with the two results at their last contents and the arguments as launched. -/
theorem run_values : θ_run defs (onTc (τ := τ) (main (F := Ideal))) ⟨m, fun _ => 0, ρ⟩ (fun r => ∀ c : Dev nD,
      r.2.mem ((c.tc : Thread nD τ).loc main_v21_2) = W10 m ρ c (Proc.devRef .tc main_v21_2)
      ∧ r.2.mem ((c.tc : Thread nD τ).loc main_v22) = W10 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    have e (a : Ref sig .tc) (ha : a ∈ argRefs) (hu : ¬ (Proc.devRef .tc a : DevRef τ sig).isScoped) :
        r.2.mem ((c.tc : Thread nD τ).loc a) = m ((c.tc : Thread nD τ).loc a) := (h c _ (mem_uc a hu)).trans (W10_args m ρ c a ha)
    ⟨h c _ (mem_uc main_v21_2 (by decide)), h c _ (mem_uc main_v22 (by decide)), e main_arg0 (by decide) (by decide), e main_arg1 (by decide) (by decide), e main_arg2 (by decide) (by decide), e main_arg3 (by decide) (by decide), e main_arg4 (by decide) (by decide), e main_arg5 (by decide) (by decide), e main_arg6 (by decide) (by decide), e main_arg7 (by decide) (by decide), e main_arg8 (by decide) (by decide), e main_arg9 (by decide) (by decide), e main_arg10 (by decide) (by decide), e main_arg11 (by decide) (by decide), e main_arg12 (by decide) (by decide), e main_arg13 (by decide) (by decide), e main_arg14 (by decide) (by decide), e main_arg15 (by decide) (by decide), e main_arg16 (by decide) (by decide), e main_arg17 (by decide) (by decide), e main_arg18 (by decide) (by decide), e main_arg19 (by decide) (by decide)⟩) (run_ends m ρ)

end Cert.KernelSide

end
-- ==== Proof.RefValue.lean ====
/-
  The reference's results, entry by entry: its composed terms are cut into one function per step of the
  encoder, and each function is read at an entry as the mathematics of the Spec module.
-/
module

public import proofs.«01_k».proof.Proof.Spec
public import proofs.«01_k».proof.Proof.Gen.ReferenceIdeal.Run

@[expose] public section

set_option maxRecDepth 16384

noncomputable section

namespace Cert.RefSide

open Cert.ReferenceIdeal Cert.ReferenceIdeal.Gen Cert.ReferenceIdeal.Value Cert.Spec Idealize.ShloMosaic Idealize.ShloMosaic.TcCoe Idealize.SL.Sem Idealize.ShloMosaic.StableHlo

/-- The column sums of an adjacency. -/
def degV (a : FVec Ideal S4096x4096 .f32) : FVec Ideal S4096 .f32 :=
  Host.reduceAdd a (constant S_ .f32 0x00000000#32) reducesTo_S4096x4096_S4096_d0 h_S_

/-- Their inverse square roots. -/
def disV (d : FVec Ideal S4096 .f32) : FVec Ideal S4096 .f32 :=
  select (cmpf .ogt d (broadcastInDim S4096 ![] bcast_S_S4096 (constant S_ .f32 0x00000000#32))) (Host.divf (broadcastInDim S4096 ![] bcast_S_S4096 (constant S_ .f32 0x3F800000#32)) (Host.sqrt d)) (broadcastInDim S4096 ![] bcast_S_S4096 (id (constant S_ .f32 0x00000000#32)))

/-- The adjacency scaled on both sides, its axes exchanged. -/
def normV (d : FVec Ideal S4096 .f32) (a : FVec Ideal S4096x4096 .f32) : FVec Ideal S4096x4096 .f32 :=
  transpose S4096x4096 [1, 0] (mulf (mulf (broadcastInDim S4096x4096 ![0, 1] bcast_S4096x1_S4096x4096_0_1 (broadcastInDim S4096x1 ![0] bcast_S4096_S4096x1_0 d)) a) (broadcastInDim S4096x4096 ![0, 1] bcast_S1x4096_S4096x4096_0_1 (broadcastInDim S1x4096 ![1] bcast_S4096_S1x4096_1 d))) transposes_S4096x4096_S4096x4096_1_0

/-- The first layer. -/
def gcnA (d : FVec Ideal S4096 .f32) (a : FVec Ideal S4096x4096 .f32) (x : FVec Ideal S4096x128 .f32) (w : FVec Ideal S128x128 .f32) (b : FVec Ideal S128 .f32) : FVec Ideal S4096x128 .f32 :=
  addf (Host.dotGeneral dot_S4096x4096_S4096x128_S4096x128_1_0_0_1_n_n none (normV d a) (Host.dotGeneral dot_S4096x128_S128x128_S4096x128_1_0_0_1_n_n none x w)) (broadcastInDim S4096x128 ![0, 1] bcast_S1x128_S4096x128_0_1 (broadcastInDim S1x128 ![1] bcast_S128_S1x128_1 b))

/-- The second layer. -/
def gcnB (d : FVec Ideal S4096 .f32) (a : FVec Ideal S4096x4096 .f32) (x : FVec Ideal S4096x128 .f32) (w : FVec Ideal S128x64 .f32) (b : FVec Ideal S64 .f32) : FVec Ideal S4096x64 .f32 :=
  addf (Host.dotGeneral dot_S4096x4096_S4096x64_S4096x64_1_0_0_1_n_n none (normV d a) (Host.dotGeneral dot_S4096x128_S128x64_S4096x64_1_0_0_1_n_n none x w)) (broadcastInDim S4096x64 ![0, 1] bcast_S1x64_S4096x64_0_1 (broadcastInDim S1x64 ![1] bcast_S64_S1x64_1 b))

/-- An array less its column means, the mean taken as the variance takes it. -/
def cenV (h : FVec Ideal S4096x128 .f32) : FVec Ideal S4096x128 .f32 :=
  subf h (broadcastInDim S4096x128 ![0, 1] bcast_S1x128_S4096x128_0_1 (Host.divf (broadcastInDim S1x128 ![1] bcast_S128_S1x128_1 (Host.reduceAdd h (constant S_ .f32 0x00000000#32) reducesTo_S4096x128_S128_d0 h_S_)) (broadcastInDim S1x128 ![] bcast_S_S1x128 (constant S_ .f32 0x45800000#32))))

/-- The number of rows less no correction. -/
def cntV : FVec Ideal S_ .f32 := subf (constant S_ .f32 0x45800000#32) (sitofp .f32 (constantI S_ 32 0#32))

/-- The column variances. -/
def varV (c : FVec Ideal S4096x128 .f32) : FVec Ideal S128 .f32 :=
  select (broadcastInDim S128 ![] bcast_S_S128 (cmpf .ogt cntV (constant S_ .f32 0x00000000#32))) (Host.divf (Host.reduceAdd (mulf c c) (constant S_ .f32 0x00000000#32) reducesTo_S4096x128_S128_d0 h_S_) (broadcastInDim S128 ![] bcast_S_S128 cntV)) (broadcastInDim S128 ![] bcast_S_S128 (id (constant S_ .f32 0x7FC00000#32)))

/-- The batch normalisation and the positive part. -/
def bnV (h : FVec Ideal S4096x128 .f32) (g b : FVec Ideal S128 .f32) : FVec Ideal S4096x128 .f32 :=
  maximumf (addf (mulf (Host.divf (subf h (broadcastInDim S4096x128 ![0, 1] bcast_S1x128_S4096x128_0_1 (broadcastInDim S1x128 ![1] bcast_S128_S1x128_1 (Host.divf (Host.reduceAdd h (constant S_ .f32 0x00000000#32) reducesTo_S4096x128_S128_d0 h_S_) (broadcastInDim S128 ![] bcast_S_S128 (constant S_ .f32 0x45800000#32)))))) (broadcastInDim S4096x128 ![0, 1] bcast_S1x128_S4096x128_0_1 (broadcastInDim S1x128 ![1] bcast_S128_S1x128_1 (Host.sqrt (addf (varV (cenV h)) (broadcastInDim S128 ![] bcast_S_S128 (constant S_ .f32 0x3727C5AC#32))))))) (broadcastInDim S4096x128 ![0, 1] bcast_S1x128_S4096x128_0_1 (broadcastInDim S1x128 ![1] bcast_S128_S1x128_1 g))) (broadcastInDim S4096x128 ![0, 1] bcast_S1x128_S4096x128_0_1 (broadcastInDim S1x128 ![1] bcast_S128_S1x128_1 b))) (broadcastInDim S4096x128 ![] bcast_S_S4096x128 (constant S_ .f32 0x00000000#32))

/-- The neighbourhood average. -/
def avgV (a : FVec Ideal S4096x4096 .f32) (h : FVec Ideal S4096x64 .f32) : FVec Ideal S4096x64 .f32 :=
  Host.divf (Host.dotGeneral dot_S4096x4096_S4096x64_S4096x64_1_0_0_1_n_n none a h) (broadcastInDim S4096x64 ![0, 1] bcast_S4096x1_S4096x64_0_1 (broadcastInDim S4096x1 ![0] bcast_S4096_S4096x1_0 (Host.reduceAdd a (constant S_ .f32 0x00000000#32) reducesTo_S4096x4096_S4096_d1 h_S_)))

/-- The unit row through the logistic function. -/
def squashV (v : FVec Ideal S4096x64 .f32) : FVec Ideal S4096x64 .f32 :=
  Host.divf (broadcastInDim S4096x64 ![] bcast_S_S4096x64 (constant S_ .f32 0x3F800000#32)) (addf (broadcastInDim S4096x64 ![] bcast_S_S4096x64 (constant S_ .f32 0x3F800000#32)) (Host.exp (Host.negf (Host.divf v (broadcastInDim S4096x64 ![0, 1] bcast_S4096x1_S4096x64_0_1 (maximumf (Host.sqrt (broadcastInDim S4096x1 ![0] bcast_S4096_S4096x1_0 (Host.reduceAdd (mulf v v) (constant S_ .f32 0x00000000#32) reducesTo_S4096x64_S4096_d1 h_S_))) (broadcastInDim S4096x1 ![] bcast_S_S4096x1 (constant S_ .f32 0x2B8CBCCC#32))))))))

/-- A column of bilinear scores. -/
def bilV (g h : FVec Ideal S4096x64 .f32) (w : FVec Ideal S1x64x64 .f32) (b : FVec Ideal S1 .f32) : FVec Ideal S4096x1 .f32 :=
  addf (broadcastInDim S4096x1 ![0] bcast_S4096_S4096x1_0 (Host.dotGeneral dot_S4096x64_S64x4096_S4096_1_0_n_n_0_1 none g (Host.dotGeneral dot_S64x64_S4096x64_S64x4096_0_1_1_0_n_n none (shapeCast _ w shapeCasts_S1x64x64_S64x64) h))) (broadcastInDim S4096x1 ![0, 1] bcast_S1x1_S4096x1_0_1 (broadcastInDim S1x1 ![1] bcast_S1_S1x1_1 b))

/-- The two columns side by side. -/
def retV (p q : FVec Ideal S4096x1 .f32) : FVec Ideal S4096x2 .f32 :=
  concatenate S4096x2 1 [⟨S4096x1, p⟩, ⟨S4096x1, q⟩] concatenates_S4096x1_S4096x1_S4096x2_d1

/-- The three views stacked. -/
def stackV (x y z : FVec Ideal S4096x64 .f32) : FVec Ideal S4096x3x64 .f32 :=
  concatenate S4096x3x64 1 [⟨S4096x1x64, broadcastInDim S4096x1x64 ![0, 2] bcast_S4096x64_S4096x1x64_0_2 x⟩, ⟨S4096x1x64, broadcastInDim S4096x1x64 ![0, 2] bcast_S4096x64_S4096x1x64_0_2 y⟩, ⟨S4096x1x64, broadcastInDim S4096x1x64 ![0, 2] bcast_S4096x64_S4096x1x64_0_2 z⟩] concatenates_S4096x1x64_S4096x1x64_S4096x1x64_S4096x3x64_d1

/-- The scores of the stacked rows. -/
def scoreV (z : FVec Ideal S4096x3x64 .f32) (w : FVec Ideal S64x16 .f32) (b : FVec Ideal S16 .f32) (v : FVec Ideal S16x1 .f32) : FVec Ideal S4096x3x1 .f32 :=
  Host.dotGeneral dot_S4096x3x16_S16x1_S4096x3x1_2_0_01_1_n_n none (Host.tanh (addf (Host.dotGeneral dot_S4096x3x64_S64x16_S4096x3x16_2_0_01_1_n_n none z w) (broadcastInDim S4096x3x16 ![0, 1, 2] bcast_S1x1x16_S4096x3x16_0_1_2 (broadcastInDim S1x1x16 ![2] bcast_S16_S1x1x16_2 b)))) v

/-- The shifted exponentials. -/
def expV (s : FVec Ideal S4096x3x1 .f32) : FVec Ideal S4096x3x1 .f32 :=
  Host.exp (subf s (broadcastInDim S4096x3x1 ![0, 1, 2] bcast_S4096x1x1_S4096x3x1_0_1_2 (broadcastInDim S4096x1x1 ![0, 2] bcast_S4096x1_S4096x1x1_0_2 (maximumf (broadcastInDim S4096x1 ![] bcast_S_S4096x1 (constant S_ .f32 0xFF800000#32)) (Host.reduce FloatOps.maximumf s (constant S_ .f32 0xFF800000#32) reducesTo_S4096x3x1_S4096x1_d1 h_S_)))))

/-- The rows mixed. -/
def fuseV (e : FVec Ideal S4096x3x1 .f32) (z : FVec Ideal S4096x3x64 .f32) : FVec Ideal S4096x64 .f32 :=
  Host.reduceAdd (mulf (broadcastInDim S4096x3x64 ![0, 1, 2] bcast_S4096x3x1_S4096x3x64_0_1_2 (Host.divf e (broadcastInDim S4096x3x1 ![0, 1, 2] bcast_S4096x1x1_S4096x3x1_0_1_2 (broadcastInDim S4096x1x1 ![0, 2] bcast_S4096x1_S4096x1x1_0_2 (Host.reduceAdd e (constant S_ .f32 0x00000000#32) reducesTo_S4096x3x1_S4096x1_d1 h_S_))))) z) (constant S_ .f32 0x00000000#32) reducesTo_S4096x3x64_S4096x64_d1 h_S_

/-! ### Each step read at an entry -/

theorem degV_apply (a : FVec Ideal S4096x4096 .f32) (c : Fin 4096) : degV a (ix1 c) = deg (mat a) c := by
  pointwise [degV, deg, mat]

theorem disV_apply (d : FVec Ideal S4096 .f32) (c : Fin 4096) : disV d (ix1 c) = inv (d (ix1 c)) := by
  have h0 : (constant S_ .f32 0x00000000#32 : FVec Ideal S_ .f32) ix0 = 0 := by pointwise
  pointwise [disV]
  rw [← inv_eq]
  simp [Ideal.cmp, h0]

theorem normV_apply (d : FVec Ideal S4096 .f32) (a : FVec Ideal S4096x4096 .f32) (c r : Fin 4096) :
    normV d a (ix2 c r) = d (ix1 r) * a (ix2 r c) * d (ix1 c) := by
  pointwise [normV]

theorem gcnA_apply (a : FVec Ideal S4096x4096 .f32) (x : FVec Ideal S4096x128 .f32) (w : FVec Ideal S128x128 .f32) (b : FVec Ideal S128 .f32) (r : Fin 4096) (j : Fin 128) :
    gcnA (disV (degV a)) a x w b (ix2 r j) = gcn (mat a) (mat x) (mat w) (row b) r j := by
  rw [← gcn_eq]
  pointwise [gcnA]
  simp only [normV_apply, disV_apply, degV_apply]
  rfl

theorem gcnB_apply (a : FVec Ideal S4096x4096 .f32) (x : FVec Ideal S4096x128 .f32) (w : FVec Ideal S128x64 .f32) (b : FVec Ideal S64 .f32) (r : Fin 4096) (j : Fin 64) :
    gcnB (disV (degV a)) a x w b (ix2 r j) = gcn (mat a) (mat x) (mat w) (row b) r j := by
  rw [← gcn_eq]
  pointwise [gcnB]
  simp only [normV_apply, disV_apply, degV_apply]
  rfl

theorem cenV_apply (h : FVec Ideal S4096x128 .f32) (r : Fin 4096) (j : Fin 128) : cenV h (ix2 r j) = cen (mat h) r j := by
  pointwise [cenV, cen, mean, rows, mat]

theorem cntV_apply : cntV ix0 = rows := by
  pointwise [cntV]
  have h0 : (FloatOps.sitofp .f32 (0#32 : BitVec 32) : Ideal .f32) = (0 : EReal) := by
    show (((0#32 : BitVec 32).toInt : ℝ) : EReal) = 0
    simp
  rw [h0]
  simp [rows]

theorem varV_apply (h : FVec Ideal S4096x128 .f32) (j : Fin 128) : varV (cenV h) (ix1 j) = var (mat h) j := by
  pointwise [varV]
  simp only [cntV_apply, cenV_apply]
  have hr : (0 : EReal) < rows := by rw [rows_eq]; exact_mod_cast (by norm_num : (0 : ℝ) < 4096)
  simp [Ideal.cmp, hr, var]

theorem bnV_apply (h : FVec Ideal S4096x128 .f32) (g b : FVec Ideal S128 .f32) (r : Fin 4096) (j : Fin 128) :
    bnV h g b (ix2 r j) = bnr (mat h) (row g) (row b) r j := by
  rw [← bnr_eq]
  pointwise [bnV]
  simp only [varV_apply]
  rfl

theorem avgV_apply (a : FVec Ideal S4096x4096 .f32) (h : FVec Ideal S4096x64 .f32) (r : Fin 4096) (j : Fin 64) :
    avgV a h (ix2 r j) = avg (mat a) (mat h) r j := by
  pointwise [avgV, avg, mat]

theorem squashV_apply (v : FVec Ideal S4096x64 .f32) (r : Fin 4096) (j : Fin 64) :
    squashV v (ix2 r j) = squash (mat v) r j := by
  pointwise [squashV, squash, mat, tiny]
  rw [← logistic_eq]

theorem bilV_apply (g h : FVec Ideal S4096x64 .f32) (w : FVec Ideal S1x64x64 .f32) (b : FVec Ideal S1 .f32) (r : Fin 4096) :
    bilV g h w b (ix2 r 0) = bil (mat h) (fun i j => w (ix3 0 i j)) (mat g) (b (ix1 0)) r := by
  pointwise [bilV, bil, mm, mat]
  congr 1
  refine Finset.sum_congr rfl fun j _ => ?_
  rw [mul_comm]
  congr 1
  exact Finset.sum_congr rfl fun i _ => mul_comm _ _

theorem stackV_apply (x y z : FVec Ideal S4096x64 .f32) (r : Fin 4096) (j : Fin 64) :
    stackV x y z (ix3 r 0 j) = x (ix2 r j) ∧ stackV x y z (ix3 r 1 j) = y (ix2 r j) ∧ stackV x y z (ix3 r 2 j) = z (ix2 r j) := by
  refine ⟨?_, ?_, ?_⟩ <;> pointwise [stackV]

theorem scoreV_apply (z : FVec Ideal S4096x3x64 .f32) (w : FVec Ideal S64x16 .f32) (b : FVec Ideal S16 .f32) (v : FVec Ideal S16x1 .f32) (r : Fin 4096) (t : Fin 3) :
    scoreV z w b v (ix3 r t 0) = score (fun r j => z (ix3 r t j)) (mat w) (row b) (fun j => v (ix2 j 0)) r := by
  pointwise [scoreV, score, mm, mat, row]

theorem expV_apply (s : FVec Ideal S4096x3x1 .f32) (r : Fin 4096) (t : Fin 3) :
    expV s (ix3 r t 0) = Ideal.exp (s (ix3 r t 0) - top3 (s (ix3 r 0 0)) (s (ix3 r 1 0)) (s (ix3 r 2 0))) := by
  have hb : Ideal.ofBits .f32 (0xFF800000#32) = ⊥ := by simp [Ideal.ofBits, Ideal.ieee]
  pointwise [expV]
  have hf : Finset.fold max ⊥ (fun x => s (ix3 r x 0)) Finset.univ = top3 (s (ix3 r 0 0)) (s (ix3 r 1 0)) (s (ix3 r 2 0)) := by
    rw [show (Finset.univ : Finset (Fin 3)) = {0, 1, 2} from by decide]
    simp [top3, max_assoc]
  rw [hb, hf]
  simp

theorem fuseV_apply (s : FVec Ideal S4096x3x1 .f32) (z : FVec Ideal S4096x3x64 .f32) (r : Fin 4096) (j : Fin 64) :
    fuseV (expV s) z (ix2 r j) = fuse (s (ix3 r 0 0)) (s (ix3 r 1 0)) (s (ix3 r 2 0)) (z (ix3 r 0 j)) (z (ix3 r 1 j)) (z (ix3 r 2 j)) := by
  pointwise [fuseV]
  simp only [Fin.sum_univ_three, expV_apply]
  rfl

/-! ### The whole reference -/

/-- One view: both layers. -/
def encV (a : FVec Ideal S4096x4096 .f32) (x : FVec Ideal S4096x128 .f32) (w1 : FVec Ideal S128x128 .f32) (b1 g b : FVec Ideal S128 .f32) (w2 : FVec Ideal S128x64 .f32) (b2 : FVec Ideal S64 .f32) : FVec Ideal S4096x64 .f32 :=
  gcnB (disV (degV a)) a (bnV (gcnA (disV (degV a)) a x w1 b1) g b) w2 b2

/-- The first result of three encoded views. -/
def mixV (x y z : FVec Ideal S4096x64 .f32) (w : FVec Ideal S64x16 .f32) (b : FVec Ideal S16 .f32) (v : FVec Ideal S16x1 .f32) : FVec Ideal S4096x64 .f32 :=
  fuseV (expV (scoreV (stackV x y z) w b v)) (stackV x y z)

/-- The third result of two encoded views. -/
def judgeV (a : FVec Ideal S4096x4096 .f32) (t h : FVec Ideal S4096x64 .f32) (w : FVec Ideal S1x64x64 .f32) (b : FVec Ideal S1 .f32) : FVec Ideal S4096x2 .f32 :=
  retV (bilV (squashV (avgV a t)) t w b) (bilV (squashV (avgV a t)) h w b)

theorem encV_apply (a : FVec Ideal S4096x4096 .f32) (x : FVec Ideal S4096x128 .f32) (w1 : FVec Ideal S128x128 .f32) (b1 g b : FVec Ideal S128 .f32) (w2 : FVec Ideal S128x64 .f32) (b2 : FVec Ideal S64 .f32) :
    mat (encV a x w1 b1 g b w2 b2) = enc (mat a) (mat x) (mat w1) (row b1) (row g) (row b) (mat w2) (row b2) := by
  funext r j
  show encV a x w1 b1 g b w2 b2 (ix2 r j) = _
  unfold encV enc
  rw [gcnB_apply]
  congr 1
  funext r j
  show bnV _ g b (ix2 r j) = _
  rw [bnV_apply]
  congr 1
  funext r j
  exact gcnA_apply a x w1 b1 r j

theorem mixV_apply (x y z : FVec Ideal S4096x64 .f32) (w : FVec Ideal S64x16 .f32) (b : FVec Ideal S16 .f32) (v : FVec Ideal S16x1 .f32) (r : Fin 4096) (j : Fin 64) :
    mixV x y z w b v (ix2 r j) = mix (mat x) (mat y) (mat z) (mat w) (row b) (fun j => v (ix2 j 0)) r j := by
  unfold mixV mix
  rw [fuseV_apply]
  simp only [scoreV_apply, (stackV_apply x y z _ _).1, (stackV_apply x y z _ _).2.1, (stackV_apply x y z _ _).2.2]

theorem bilV_judge (a : FVec Ideal S4096x4096 .f32) (t h : FVec Ideal S4096x64 .f32) (w : FVec Ideal S1x64x64 .f32) (b : FVec Ideal S1 .f32) (r : Fin 4096) :
    bilV (squashV (avgV a t)) h w b (ix2 r 0) = judge (mat a) (mat t) (mat h) (fun i j => w (ix3 0 i j)) (b (ix1 0)) r := by
  rw [bilV_apply]
  unfold judge
  congr 1
  funext r j
  show squashV _ (ix2 r j) = _
  rw [squashV_apply]
  congr 1
  funext r j
  exact avgV_apply a t r j

theorem judgeV_apply (a : FVec Ideal S4096x4096 .f32) (t h : FVec Ideal S4096x64 .f32) (w : FVec Ideal S1x64x64 .f32) (b : FVec Ideal S1 .f32) (r : Fin 4096) :
    judgeV a t h w b (ix2 r 0) = judge (mat a) (mat t) (mat t) (fun i j => w (ix3 0 i j)) (b (ix1 0)) r
    ∧ judgeV a t h w b (ix2 r 1) = judge (mat a) (mat t) (mat h) (fun i j => w (ix3 0 i j)) (b (ix1 0)) r := by
  rw [← bilV_judge, ← bilV_judge]
  unfold judgeV
  constructor <;> pointwise [retV]

variable (m : (ℓ : Loc nD τ sig) → Buf (Elt Ideal) ℓ) (ρ : Dev nD → PrngReg)

/-- An encoded view of the arguments. -/
def viewV (c : Dev nD) (a : FVec Ideal S4096x4096 .f32) (x : FVec Ideal S4096x128 .f32) : FVec Ideal S4096x64 .f32 :=
  encV a x (m ((c.tc : Thread nD τ).loc main_arg5)) (m ((c.tc : Thread nD τ).loc main_arg6)) (m ((c.tc : Thread nD τ).loc main_arg13)) (m ((c.tc : Thread nD τ).loc main_arg14)) (m ((c.tc : Thread nD τ).loc main_arg7)) (m ((c.tc : Thread nD τ).loc main_arg8))

/-- The first result of the arguments. -/
def hidV (c : Dev nD) : FVec Ideal S4096x64 .f32 :=
  mixV (viewV m c (m ((c.tc : Thread nD τ).loc main_arg2)) (m ((c.tc : Thread nD τ).loc main_arg0))) (viewV m c (m ((c.tc : Thread nD τ).loc main_arg3)) (m ((c.tc : Thread nD τ).loc main_arg0)))
    (viewV m c (m ((c.tc : Thread nD τ).loc main_arg4)) (m ((c.tc : Thread nD τ).loc main_arg0))) (m ((c.tc : Thread nD τ).loc main_arg15)) (m ((c.tc : Thread nD τ).loc main_arg16)) (m ((c.tc : Thread nD τ).loc main_arg17))

/-- The third result of the arguments. -/
def outV (c : Dev nD) : FVec Ideal S4096x2 .f32 :=
  judgeV (m ((c.tc : Thread nD τ).loc main_arg3)) (viewV m c (m ((c.tc : Thread nD τ).loc main_arg3)) (m ((c.tc : Thread nD τ).loc main_arg0)))
    (viewV m c (m ((c.tc : Thread nD τ).loc main_arg3)) (m ((c.tc : Thread nD τ).loc main_arg1))) (m ((c.tc : Thread nD τ).loc main_arg18)) (m ((c.tc : Thread nD τ).loc main_arg19))

/-- Every execution of the reference ends with its two results at these arrays. -/
theorem run_values :
    θ_run defs (onTc (τ := τ) (main (F := Ideal))) ⟨m, fun _ => 0, ρ⟩ fun r => ∀ c : Dev nD,
      r.2.mem ((c.tc : Thread nD τ).loc main_v289) = hidV m c ∧ r.2.mem ((c.tc : Thread nD τ).loc main_v207) = outV m c :=
  (θ_run defs _ _).mono (fun _ h c => ⟨(h c).1, (h c).2.1⟩) (run (F := Ideal) m ρ)

end Cert.RefSide

end
-- ==== Proof.Equal.lean ====
/-
  The equation: on the same arguments the kernel's two results are the reference's.
-/
module

public import proofs.«01_k».proof.Proof.Chain
public import proofs.«01_k».proof.Proof.RefValue

@[expose] public section

set_option maxRecDepth 16384

noncomputable section

namespace Cert.RefSide

open Cert.ReferenceIdeal Cert.Spec Idealize.ShloMosaic Idealize.ShloMosaic.TcCoe

variable (m : (ℓ : Loc nD τ sig) → Buf (Elt Ideal) ℓ) (c : Dev nD)

/-- The reference's encoded view, by its entries. -/
theorem viewV_mat (a : FVec Ideal S4096x4096 .f32) (x : FVec Ideal S4096x128 .f32) : mat (viewV m c a x) =
    enc (mat a) (mat x) (mat (φ := .f32) (m ((c.tc : Thread nD τ).loc main_arg5))) (row (φ := .f32) (m ((c.tc : Thread nD τ).loc main_arg6)))
      (row (φ := .f32) (m ((c.tc : Thread nD τ).loc main_arg13))) (row (φ := .f32) (m ((c.tc : Thread nD τ).loc main_arg14)))
      (mat (φ := .f32) (m ((c.tc : Thread nD τ).loc main_arg7))) (row (φ := .f32) (m ((c.tc : Thread nD τ).loc main_arg8))) :=
  encV_apply a x _ _ _ _ _ _

/-- The reference's first result. -/
theorem hidV_apply (r : Fin 4096) (j : Fin 64) : hidV m c (ix2 r j) =
    mix (mat (viewV m c (m ((c.tc : Thread nD τ).loc main_arg2)) (m ((c.tc : Thread nD τ).loc main_arg0))))
      (mat (viewV m c (m ((c.tc : Thread nD τ).loc main_arg3)) (m ((c.tc : Thread nD τ).loc main_arg0))))
      (mat (viewV m c (m ((c.tc : Thread nD τ).loc main_arg4)) (m ((c.tc : Thread nD τ).loc main_arg0))))
      (mat (φ := .f32) (m ((c.tc : Thread nD τ).loc main_arg15))) (row (φ := .f32) (m ((c.tc : Thread nD τ).loc main_arg16)))
      (col (φ := .f32) (m ((c.tc : Thread nD τ).loc main_arg17))) r j :=
  mixV_apply _ _ _ _ _ _ r j

end Cert.RefSide

namespace Cert.KernelSide

open Cert.Spec Idealize.ShloMosaic Idealize.ShloMosaic.TcCoe

/-- The arguments of the two programs agree. -/
def Agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
    ∧ m' ((c.tc : Thread ReferenceIdeal.nD ReferenceIdeal.τ).loc ReferenceIdeal.main_arg1) = m ((c.tc : Thread KernelIdeal.nD KernelIdeal.τ).loc KernelIdeal.main_arg1)
    ∧ m' ((c.tc : Thread ReferenceIdeal.nD ReferenceIdeal.τ).loc ReferenceIdeal.main_arg2) = m ((c.tc : Thread KernelIdeal.nD KernelIdeal.τ).loc KernelIdeal.main_arg2)
    ∧ m' ((c.tc : Thread ReferenceIdeal.nD ReferenceIdeal.τ).loc ReferenceIdeal.main_arg3) = m ((c.tc : Thread KernelIdeal.nD KernelIdeal.τ).loc KernelIdeal.main_arg3)
    ∧ m' ((c.tc : Thread ReferenceIdeal.nD ReferenceIdeal.τ).loc ReferenceIdeal.main_arg4) = m ((c.tc : Thread KernelIdeal.nD KernelIdeal.τ).loc KernelIdeal.main_arg4)
    ∧ m' ((c.tc : Thread ReferenceIdeal.nD ReferenceIdeal.τ).loc ReferenceIdeal.main_arg5) = m ((c.tc : Thread KernelIdeal.nD KernelIdeal.τ).loc KernelIdeal.main_arg5)
    ∧ m' ((c.tc : Thread ReferenceIdeal.nD ReferenceIdeal.τ).loc ReferenceIdeal.main_arg6) = m ((c.tc : Thread KernelIdeal.nD KernelIdeal.τ).loc KernelIdeal.main_arg6)
    ∧ m' ((c.tc : Thread ReferenceIdeal.nD ReferenceIdeal.τ).loc ReferenceIdeal.main_arg7) = m ((c.tc : Thread KernelIdeal.nD KernelIdeal.τ).loc KernelIdeal.main_arg7)
    ∧ m' ((c.tc : Thread ReferenceIdeal.nD ReferenceIdeal.τ).loc ReferenceIdeal.main_arg8) = m ((c.tc : Thread KernelIdeal.nD KernelIdeal.τ).loc KernelIdeal.main_arg8)
    ∧ m' ((c.tc : Thread ReferenceIdeal.nD ReferenceIdeal.τ).loc ReferenceIdeal.main_arg9) = m ((c.tc : Thread KernelIdeal.nD KernelIdeal.τ).loc KernelIdeal.main_arg9)
    ∧ m' ((c.tc : Thread ReferenceIdeal.nD ReferenceIdeal.τ).loc ReferenceIdeal.main_arg10) = m ((c.tc : Thread KernelIdeal.nD KernelIdeal.τ).loc KernelIdeal.main_arg10)
    ∧ m' ((c.tc : Thread ReferenceIdeal.nD ReferenceIdeal.τ).loc ReferenceIdeal.main_arg11) = m ((c.tc : Thread KernelIdeal.nD KernelIdeal.τ).loc KernelIdeal.main_arg11)
    ∧ m' ((c.tc : Thread ReferenceIdeal.nD ReferenceIdeal.τ).loc ReferenceIdeal.main_arg12) = m ((c.tc : Thread KernelIdeal.nD KernelIdeal.τ).loc KernelIdeal.main_arg12)
    ∧ m' ((c.tc : Thread ReferenceIdeal.nD ReferenceIdeal.τ).loc ReferenceIdeal.main_arg13) = m ((c.tc : Thread KernelIdeal.nD KernelIdeal.τ).loc KernelIdeal.main_arg13)
    ∧ m' ((c.tc : Thread ReferenceIdeal.nD ReferenceIdeal.τ).loc ReferenceIdeal.main_arg14) = m ((c.tc : Thread KernelIdeal.nD KernelIdeal.τ).loc KernelIdeal.main_arg14)
    ∧ m' ((c.tc : Thread ReferenceIdeal.nD ReferenceIdeal.τ).loc ReferenceIdeal.main_arg15) = m ((c.tc : Thread KernelIdeal.nD KernelIdeal.τ).loc KernelIdeal.main_arg15)
    ∧ m' ((c.tc : Thread ReferenceIdeal.nD ReferenceIdeal.τ).loc ReferenceIdeal.main_arg16) = m ((c.tc : Thread KernelIdeal.nD KernelIdeal.τ).loc KernelIdeal.main_arg16)
    ∧ m' ((c.tc : Thread ReferenceIdeal.nD ReferenceIdeal.τ).loc ReferenceIdeal.main_arg17) = m ((c.tc : Thread KernelIdeal.nD KernelIdeal.τ).loc KernelIdeal.main_arg17)
    ∧ m' ((c.tc : Thread ReferenceIdeal.nD ReferenceIdeal.τ).loc ReferenceIdeal.main_arg18) = m ((c.tc : Thread KernelIdeal.nD KernelIdeal.τ).loc KernelIdeal.main_arg18)
    ∧ m' ((c.tc : Thread ReferenceIdeal.nD ReferenceIdeal.τ).loc ReferenceIdeal.main_arg19) = m ((c.tc : Thread KernelIdeal.nD KernelIdeal.τ).loc KernelIdeal.main_arg19)

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- The first result. -/
theorem equal_1 (h : Agree m m' c) : RefSide.hidV m' c = KernelIdeal.Gen.W10 m ρ c (Proc.devRef .tc KernelIdeal.main_v21_2) := by
  obtain ⟨e0, e1, e2, e3, e4, e5, e6, e7, e8, e9, e10, e11, e12, e13, e14, e15, e16, e17, e18, e19⟩ := h
  funext i
  obtain ⟨r, j, rfl⟩ : ∃ r j, i = ix2 r j := ⟨_, _, eq_ix2 i⟩
  refine (RefSide.hidV_apply m' c r j).trans (Eq.trans ?_ (result_1 m ρ c r j).symm)
  rw [RefSide.viewV_mat, RefSide.viewV_mat, RefSide.viewV_mat, e0, e2, e3, e4, e5, e6, e7, e8, e13, e14, e15, e16, e17]

/-- The third result. -/
theorem equal_3 (h : Agree m m' c) : RefSide.outV m' c = KernelIdeal.Gen.W10 m ρ c (Proc.devRef .tc KernelIdeal.main_v22) := by
  obtain ⟨e0, e1, e2, e3, e4, e5, e6, e7, e8, e9, e10, e11, e12, e13, e14, e15, e16, e17, e18, e19⟩ := h
  funext i
  obtain ⟨r, q, rfl⟩ : ∃ (r : Fin 4096) (q : Fin 2), i = ix2 r q := ⟨_, _, eq_ix2 i⟩
  obtain ⟨p0, p1⟩ := RefSide.judgeV_apply (m' ((c.tc : Thread ReferenceIdeal.nD ReferenceIdeal.τ).loc ReferenceIdeal.main_arg3))
    (RefSide.viewV m' c (m' ((c.tc : Thread ReferenceIdeal.nD ReferenceIdeal.τ).loc ReferenceIdeal.main_arg3)) (m' ((c.tc : Thread ReferenceIdeal.nD ReferenceIdeal.τ).loc ReferenceIdeal.main_arg0)))
    (RefSide.viewV m' c (m' ((c.tc : Thread ReferenceIdeal.nD ReferenceIdeal.τ).loc ReferenceIdeal.main_arg3)) (m' ((c.tc : Thread ReferenceIdeal.nD ReferenceIdeal.τ).loc ReferenceIdeal.main_arg1)))
    (m' ((c.tc : Thread ReferenceIdeal.nD ReferenceIdeal.τ).loc ReferenceIdeal.main_arg18)) (m' ((c.tc : Thread ReferenceIdeal.nD ReferenceIdeal.τ).loc ReferenceIdeal.main_arg19)) r
  obtain ⟨k0, k1⟩ := result_3 m ρ c r
  match q with
  | ⟨0, _⟩ =>
    refine p0.trans (Eq.trans ?_ k0.symm)
    rw [RefSide.viewV_mat, e0, e3, e5, e6, e7, e8, e13, e14, e18, e19]
  | ⟨1, _⟩ =>
    refine p1.trans (Eq.trans ?_ k1.symm)
    rw [RefSide.viewV_mat, RefSide.viewV_mat, e0, e1, e3, e5, e6, e7, e8, e13, e14, e18, e19]

end Cert.KernelSide

end
-- ==== Proof.DecoderSpec.lean ====
/-
  The mathematics of the decoder on the extended reals: an aggregation over a weighted graph and its transpose,
  averaged. The kernel sums the two halves first and scales the sum; the reference scales every weight. The two agree
  where the weights are nonnegative and the scales are nonnegative and finite.
-/
module

public import proofs.«01_k».proof.Proof.Spec

@[expose] public section

noncomputable section

namespace Cert.Spec

open Idealize.ShloMosaic

variable {n k l : ℕ}

/-- One third. -/
def third : EReal := ((1 / 3 : ℝ) : EReal)

theorem third_nonneg : 0 ≤ third := by unfold third; exact_mod_cast (by norm_num : (0 : ℝ) ≤ 1 / 3)
theorem third_ne_top : third ≠ ⊤ := EReal.coe_ne_top _

/-- The divisor as the reference writes it. -/
theorem three_eq : Ideal.ofBits .f32 0x40400000#32 = ((3 : ℝ) : EReal) := by
  simp [Ideal.ofBits, Ideal.ieee, -EReal.coe_mul]; norm_num

theorem div_three (x : EReal) : Ideal.div x (Ideal.ofBits .f32 0x40400000#32) = x * third := by
  rw [three_eq, Ideal.div_coe (by norm_num : (3 : ℝ) ≠ 0)]; rfl

/-- An aggregation over a graph and its transpose, as the kernel orders it. -/
def sym (a : Mat n n) (y : Mat n l) (d : Fin n → EReal) (b : Fin l → EReal) : Mat n l :=
  fun c j => d c * (((∑ r, a c r * y r j) + ∑ r, a r c * y r j) * third) + b j

/-- `sym` at an entry from the entries it reads. -/
theorem sym_of {a : Mat n n} {y : Mat n l} {d : Fin n → EReal} {b : Fin l → EReal} {c : Fin n} {j : Fin l} {A A' Y : Fin n → EReal} {D B : EReal}
    (hA : ∀ r, A r = a c r) (hA' : ∀ r, A' r = a r c) (hY : ∀ r, Y r = y r j) (hD : D = d c) (hB : B = b j) :
    D * (((∑ r, A r * Y r) + ∑ r, A' r * Y r) * third) + B = sym a y d b c j := by
  subst hD hB
  simp only [hA, hA', hY]
  rfl

/-- The weights scaled first, each entry divided by three. -/
theorem sym_eq {a : Mat n n} {d : Fin n → EReal} (ha : ∀ r c, 0 ≤ a r c) (hd : ∀ r, 0 ≤ d r) (hd' : ∀ r, d r ≠ ⊤) (y : Mat n l) (b : Fin l → EReal) (c : Fin n) (j : Fin l) :
    (∑ r, (a r c + a c r) * third * d c * y r j) + b j = sym a y d b c j := by
  unfold sym
  rw [← Finset.sum_add_distrib, mul_comm (d c), sum_mul_of_nonneg _ _ third_nonneg third_ne_top, sum_mul_of_nonneg _ _ (hd c) (hd' c)]
  congr 1
  refine Finset.sum_congr rfl fun r _ => ?_
  rw [add_comm (a r c), ← EReal.right_distrib_of_nonneg (ha c r) (ha r c)]
  ac_rfl

/-- The two layers of the decoder. -/
def dec (a : Mat n n) (y : Mat n k) (d : Fin n → EReal) (b g o : Fin k → EReal) (w : Mat k l) (b' : Fin l → EReal) : Mat n l :=
  fun r j => max (sym a (mid (sym a y d b) g o w d) d b' r j) 0

end Cert.Spec

end
-- ==== Proof.DecoderCalls.lean ====
/-
  The decoder's three calls, entry by entry, over the contents each is entered with.
-/
module

public import proofs.«01_k».proof.Proof.DecoderSpec
public import proofs.«01_k».proof.Proof.Gen.Kernel2Ideal.Frame
public import Idealize.ShloMosaic.Lib.Pipeline.ValueKit
public import Idealize.ShloMosaic.Lib.Claim

@[expose] public section

set_option maxRecDepth 16384

noncomputable section

namespace Cert.DecoderSide

open Cert.Kernel2Ideal Cert.Kernel2Ideal.Gen Cert.Spec Idealize.ShloMosaic Idealize.ShloMosaic.TcCoe

variable (V : (c : Dev nD) → (b : Ref sig .tc) → Buf (Elt Ideal) ((c : Thread nD τ).loc b))

/-- The named constant is one third. -/
theorem third_named : Named.named (F := Ideal) κ "third" (φ := .f32) 0x3EAAAAAB#32 = third :=
  IdealRules.named_const.ideal_named_scalar _ _ _ _ rfl

/-- The first call's payload at an entry. -/
theorem k0_pay1_apply (y : Vec Ideal S4096x128 .bf16) (u : Vec Ideal S1024x4096 .bf16) (v : Vec Ideal S4096x1024 .bf16) (d : Vec Ideal S1024x1 .f32) (b : Vec Ideal S1x128 .f32)
    (p : Fin 1024) (q : Fin 128) :
    k0_pay1 y u v d b (ix2 p q) = d (ix2 p 0) * (((∑ r : Fin 4096, u (ix2 p r) * y (ix2 r q)) + ∑ r : Fin 4096, v (ix2 r p) * y (ix2 r q)) * third) + b (ix2 0 q) := by
  pointwise [k0_pay1]
  rw [third_named]

/-- The third call's payload is the first's, its positive part taken. -/
theorem k2_pay1_apply (y : Vec Ideal S4096x128 .bf16) (u : Vec Ideal S1024x4096 .bf16) (v : Vec Ideal S4096x1024 .bf16) (d : Vec Ideal S1024x1 .f32) (b : Vec Ideal S1x128 .f32)
    (p : Fin 1024) (q : Fin 128) :
    k2_pay1 y u v d b (ix2 p q) = max (d (ix2 p 0) * (((∑ r : Fin 4096, u (ix2 p r) * y (ix2 r q)) + ∑ r : Fin 4096, v (ix2 r p) * y (ix2 r q)) * third) + b (ix2 0 q)) 0 := by
  pointwise [k2_pay1]
  rw [third_named]

/-- The second call's payload. -/
theorem k1_pay1_eq (d : Vec Ideal S4096x1 .f32) (h : Vec Ideal S4096x128 .f32) (g b : Vec Ideal S1x128 .f32) (w : Vec Ideal S128x128 .f32) :
    k1_pay1 d h g b w = midV .bf16 h g b w d := by
  funext i
  obtain ⟨r, j, rfl⟩ : ∃ r j, i = ix2 r j := ⟨_, _, eq_ix2 i⟩
  unfold midV mid mm bnr var cen mean rows eps
  pointwise [k1_pay1]

theorem idx0 : ∀ t : Fin cfg0.N, win0_0.index t = ![t.val, 0] ∧ win0_1.index t = ![0, t.val] ∧ win0_2.index t = ![0, 0] ∧ win0_3.index t = ![t.val, 0]
    ∧ win0_4.index t = ![0, 0] ∧ win0_5.index t = ![t.val, 0] :=
  (by decide +kernel : ∀ t : Fin grid0.N, _)
theorem idx1 : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] :=
  (by decide +kernel : ∀ t : Fin grid1.N, _)
theorem idx2 : ∀ t : Fin cfg2.N, win2_0.index t = ![t.val, 0] ∧ win2_1.index t = ![0, t.val] ∧ win2_2.index t = ![0, 0] ∧ win2_3.index t = ![t.val, 0]
    ∧ win2_4.index t = ![0, 0] ∧ win2_5.index t = ![t.val, 0] :=
  (by decide +kernel : ∀ t : Fin grid2.N, _)

/-- The first call. -/
theorem first (c : Dev nD) : (dat0 V c).arrAt 5 cfg0.N = fun i => sym (mat (φ := .bf16) (V c main_arg0)) (mat (φ := .bf16) (V c main_arg1)) (col (φ := .f32) (V c main_arg2))
    (lane (φ := .f32) (V c main_v2)) (i 0) (i 1) := by
  refine (dat0 V c).arrAt_eq_of_covers 5 _ (by decide +kernel) fun t hf y => ?_
  obtain ⟨eu, ev, ey, ed, eb, eo⟩ := idx0 t
  blk_simp
  rw [after0_5]; frame_out
  generalize hi : ((View.whole main_v4).slice (win0_5.rect t)).emb y = i
  have h0 : (i 0 : ℕ) = t.val * 1024 + (y 0 : ℕ) := by subst hi; blk_simp [eo]
  have h1 : (i 1 : ℕ) = (y 1 : ℕ) := by subst hi; blk_simp [eo]
  refine (congrArg _ (eq_ix2 y)).trans ((k0_pay1_apply _ _ _ _ _ (y 0) (y 1)).trans (sym_of (fun r => ?_) (fun r => ?_) (fun r => ?_) ?_ ?_))
  · blk_ext! [iblk0, eu, h0]
  · blk_ext! [iblk0, ev, h0]
  · blk_ext! [iblk0, ey, h1]
  · blk_ext! [iblk0, ed, h0]
  · blk_ext! [iblk0, eb, h1]

/-- The third call. -/
theorem last (c : Dev nD) : (dat2 V c).arrAt 5 cfg2.N = fun i => max (sym (mat (φ := .bf16) (V c main_arg0)) (mat (φ := .bf16) (V c main_v5)) (col (φ := .f32) (V c main_arg2))
    (lane (φ := .f32) (V c main_v3)) (i 0) (i 1)) 0 := by
  refine (dat2 V c).arrAt_eq_of_covers 5 _ (by decide +kernel) fun t hf y => ?_
  obtain ⟨eu, ev, ey, ed, eb, eo⟩ := idx2 t
  blk_simp
  rw [after2_5]; frame_out
  generalize hi : ((View.whole main_v6).slice (win2_5.rect t)).emb y = i
  have h0 : (i 0 : ℕ) = t.val * 1024 + (y 0 : ℕ) := by subst hi; blk_simp [eo]
  have h1 : (i 1 : ℕ) = (y 1 : ℕ) := by subst hi; blk_simp [eo]
  refine (congrArg _ (eq_ix2 y)).trans ((k2_pay1_apply _ _ _ _ _ (y 0) (y 1)).trans (congrArg (max · 0) (sym_of (fun r => ?_) (fun r => ?_) (fun r => ?_) ?_ ?_)))
  · blk_ext! [iblk2, eu, h0]
  · blk_ext! [iblk2, ev, h0]
  · blk_ext! [iblk2, ey, h1]
  · blk_ext! [iblk2, ed, h0]
  · blk_ext! [iblk2, eb, h1]

/-- Every block the second call reads is the whole of its array. -/
theorem whole1 (c : Dev nD) (t : Fin cfg1.N) :
    iblk1 V c 0 t = V c main_v4 ∧ iblk1 V c 1 t = V c main_v0 ∧ iblk1 V c 2 t = V c main_v1 ∧ iblk1 V c 3 t = V c main_arg4 ∧ iblk1 V c 4 t = V c main_arg2 := by
  obtain ⟨e0, e1, e2, e3, e4, e5⟩ := idx1 t
  refine ⟨?_, ?_, ?_, ?_, ?_⟩
  · blk_ext! [iblk1, e0]
  · blk_ext! [iblk1, e1]
  · blk_ext! [iblk1, e2]
  · blk_ext! [iblk1, e3]
  · blk_ext! [iblk1, e4]

/-- The second call. -/
theorem between (c : Dev nD) : (dat1 V c).arrAt 5 cfg1.N = midV .bf16 (V c main_v4) (V c main_v0) (V c main_v1) (V c main_arg4) (V c main_arg2) := by
  refine (dat1 V c).arrAt_eq_of_covers 5 _ (by decide +kernel) fun t hf y => ?_
  obtain ⟨w0, w1, w2, w3, w4⟩ := whole1 V c t
  obtain ⟨e0, e1, e2, e3, e4, e5⟩ := idx1 t
  blk_simp
  rw [after1_5]; frame_out
  rw [w0, w1, w2, w3, w4]
  refine (congrFun (k1_pay1_eq _ _ _ _ _) y).trans (congrArg _ ?_)
  blk_ext [e5]

end Cert.DecoderSide

end
-- ==== Proof.DecoderChain.lean ====
/-
  The decoder's three calls one after another: what its result holds at the end, over the arguments at launch.
-/
module

public import proofs.«01_k».proof.Proof.DecoderCalls

@[expose] public section

set_option maxRecDepth 16384

noncomputable section

namespace Cert.DecoderSide

open Cert.Kernel2Ideal Cert.Kernel2Ideal.Gen Cert.Spec Idealize.ShloMosaic Idealize.ShloMosaic.TcCoe

variable (m : (ℓ : Loc nD τ sig) → Buf (Elt Ideal) ℓ) (ρ : Dev nD → PrngReg) (c : Dev nD)

/-- The gain, laid out as one row. -/
theorem row_gain : lane (φ := .f32) (V1 m ρ c main_v0) = row (φ := .f32) (m ((c.tc : Thread nD τ).loc main_arg6)) := by
  funext j
  dsimp only [V1, W1]
  entry_read
  pointwise
/-- The offset. -/
theorem row_offset : lane (φ := .f32) (V1 m ρ c main_v1) = row (φ := .f32) (m ((c.tc : Thread nD τ).loc main_arg7)) := by
  funext j
  dsimp only [V1, W1]
  entry_read
  pointwise
/-- The first bias. -/
theorem row_b3 : lane (φ := .f32) (V1 m ρ c main_v2) = row (φ := .f32) (m ((c.tc : Thread nD τ).loc main_arg3)) := by
  funext j
  dsimp only [V1, W1]
  entry_read
  pointwise
/-- The second bias. -/
theorem row_b4 : lane (φ := .f32) (V1 m ρ c main_v3) = row (φ := .f32) (m ((c.tc : Thread nD τ).loc main_arg5)) := by
  funext j
  dsimp only [V1, W1]
  entry_read
  pointwise

/-- After the second call: what the third aggregates. -/
theorem after_between : mat (φ := .bf16) (W3 m ρ c (Proc.devRef .tc main_v5)) =
    mid (sym (mat (φ := .bf16) (m ((c.tc : Thread nD τ).loc main_arg0))) (mat (φ := .bf16) (m ((c.tc : Thread nD τ).loc main_arg1)))
        (col (φ := .f32) (m ((c.tc : Thread nD τ).loc main_arg2))) (row (φ := .f32) (m ((c.tc : Thread nD τ).loc main_arg3))))
      (row (φ := .f32) (m ((c.tc : Thread nD τ).loc main_arg6))) (row (φ := .f32) (m ((c.tc : Thread nD τ).loc main_arg7)))
      (mat (φ := .f32) (m ((c.tc : Thread nD τ).loc main_arg4))) (col (φ := .f32) (m ((c.tc : Thread nD τ).loc main_arg2))) := by
  rw [W3_arr m ρ c 5, between (V2 m ρ) c]
  have h4 : V2 m ρ c main_v4 = _ := (W2_arr m ρ c 5).trans (first (V1 m ρ) c)
  have k0 : V1 m ρ c main_arg0 = m ((c.tc : Thread nD τ).loc main_arg0) := W1_args m ρ c main_arg0 (by decide)
  have k1 : V1 m ρ c main_arg1 = m ((c.tc : Thread nD τ).loc main_arg1) := W1_args m ρ c main_arg1 (by decide)
  have k2 : V1 m ρ c main_arg2 = m ((c.tc : Thread nD τ).loc main_arg2) := W1_args m ρ c main_arg2 (by decide)
  have k2' : V2 m ρ c main_arg2 = m ((c.tc : Thread nD τ).loc main_arg2) := W2_args m ρ c main_arg2 (by decide)
  have k4 : V2 m ρ c main_arg4 = m ((c.tc : Thread nD τ).loc main_arg4) := W2_args m ρ c main_arg4 (by decide)
  have g0 : V2 m ρ c main_v0 = V1 m ρ c main_v0 := W2_of m ρ c main_v0 (by decide)
  have g1 : V2 m ρ c main_v1 = V1 m ρ c main_v1 := W2_of m ρ c main_v1 (by decide)
  rw [h4, k0, k1, k2, k2', k4, g0, g1, row_b3, ← row_gain m ρ c, ← row_offset m ρ c]
  rfl

/-- At the end. -/
theorem result (r : Fin 4096) (j : Fin 128) : W4 m ρ c (Proc.devRef .tc main_v6) (ix2 r j) =
    dec (mat (φ := .bf16) (m ((c.tc : Thread nD τ).loc main_arg0))) (mat (φ := .bf16) (m ((c.tc : Thread nD τ).loc main_arg1))) (col (φ := .f32) (m ((c.tc : Thread nD τ).loc main_arg2)))
      (row (φ := .f32) (m ((c.tc : Thread nD τ).loc main_arg3))) (row (φ := .f32) (m ((c.tc : Thread nD τ).loc main_arg6))) (row (φ := .f32) (m ((c.tc : Thread nD τ).loc main_arg7)))
      (mat (φ := .f32) (m ((c.tc : Thread nD τ).loc main_arg4))) (row (φ := .f32) (m ((c.tc : Thread nD τ).loc main_arg5))) r j := by
  have k0 : V3 m ρ c main_arg0 = m ((c.tc : Thread nD τ).loc main_arg0) := W3_args m ρ c main_arg0 (by decide)
  have k2 : V3 m ρ c main_arg2 = m ((c.tc : Thread nD τ).loc main_arg2) := W3_args m ρ c main_arg2 (by decide)
  have k3 : V3 m ρ c main_v3 = V1 m ρ c main_v3 := (W3_of m ρ c main_v3 (by decide)).trans (W2_of m ρ c main_v3 (by decide))
  have k5 : mat (φ := .bf16) (V3 m ρ c main_v5) = _ := after_between m ρ c
  refine (congrFun ((W4_arr m ρ c 5).trans (last (V3 m ρ) c)) (ix2 r j)).trans ?_
  rw [k0, k2, k3, k5, row_b4]
  rfl

end Cert.DecoderSide

end
-- ==== Proof.DecoderRun.lean ====
/-
  The decoder's run: every execution ends, nothing faulting, with every array at the contents that the last of the host's
  operations leaves.
-/
module

public import proofs.«01_k».proof.Proof.Gen.Kernel2Ideal.Frame
public import proofs.«01_k».proof.Proof.DecoderChain

@[expose] public section

set_option maxRecDepth 16384

noncomputable section

namespace Cert.DecoderSide

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with every unscoped array at its last contents. -/
theorem run_ends : θ_run defs (onTc (τ := τ) (main (F := Ideal))) ⟨m, fun _ => 0, ρ⟩ (fun r => ∀ c : Dev nD, ∀ b ∈ Pipeline.ucRefs τ sig,
      r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- Every execution ends with the result at its last contents and the arguments as launched. -/
theorem run_values : θ_run defs (onTc (τ := τ) (main (F := Ideal))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have e (a : Ref sig .tc) (ha : a ∈ argRefs) (hu : ¬ (Proc.devRef .tc a : DevRef τ sig).isScoped) :
        r.2.mem ((c.tc : Thread nD τ).loc a) = m ((c.tc : Thread nD τ).loc a) := (h c _ (mem_uc a hu)).trans (W4_args m ρ c a ha)
    ⟨h c _ (mem_uc main_v6 (by decide)), e main_arg0 (by decide) (by decide), e main_arg1 (by decide) (by decide), e main_arg2 (by decide) (by decide), e main_arg3 (by decide) (by decide), e main_arg4 (by decide) (by decide), e main_arg5 (by decide) (by decide), e main_arg6 (by decide) (by decide), e main_arg7 (by decide) (by decide)⟩) (run_ends m ρ)

end Cert.DecoderSide

end
-- ==== Proof.DecoderRef.lean ====
/-
  The decoder's reference, entry by entry.
-/
module

public import proofs.«01_k».proof.Proof.DecoderSpec
public import proofs.«01_k».proof.Proof.RefValue
public import proofs.«01_k».proof.Proof.Gen.Reference2Ideal.Run

@[expose] public section

set_option maxRecDepth 16384

noncomputable section

namespace Cert.DecoderRef

open Cert.Reference2Ideal Cert.Reference2Ideal.Gen Cert.Reference2Ideal.Value Cert.Spec Idealize.ShloMosaic Idealize.ShloMosaic.TcCoe Idealize.SL.Sem Idealize.ShloMosaic.StableHlo

/-- The weights and their transpose, a third of each. -/
def thirdV (a : FVec Ideal S4096x4096 .bf16) : FVec Ideal S4096x4096 .f32 :=
  Host.divf (addf (extf .f32 a bitsLt_bf16_f32) (transpose S4096x4096 [1, 0] (extf .f32 a bitsLt_bf16_f32) transposes_S4096x4096_S4096x4096_1_0)) (broadcastInDim S4096x4096 ![] bcast_S_S4096x4096 (constant S_ .f32 0x40400000#32))

/-- The first layer: the weights scaled on one side. -/
def layA (a : FVec Ideal S4096x4096 .bf16) (y : FVec Ideal S4096x128 .bf16) (d : FVec Ideal S4096x1 .f32) (b : FVec Ideal S128 .f32) : FVec Ideal S4096x128 .f32 :=
  addf (Host.dotGeneral dot_S4096x4096_S4096x128_S4096x128_1_0_0_1_n_n none (transpose S4096x4096 [1, 0] (mulf (thirdV a) (broadcastInDim S4096x4096 ![0, 1] bcast_S1x4096_S4096x4096_0_1 (transpose S1x4096 [1, 0] d transposes_S4096x1_S1x4096_1_0))) transposes_S4096x4096_S4096x4096_1_0) (extf .f32 y bitsLt_bf16_f32)) (broadcastInDim S4096x128 ![0, 1] bcast_S1x128_S4096x128_0_1 (broadcastInDim S1x128 ![1] bcast_S128_S1x128_1 b))

/-- The second layer: the weights scaled on both sides. -/
def layB (a : FVec Ideal S4096x4096 .bf16) (x : FVec Ideal S4096x128 .f32) (d : FVec Ideal S4096x1 .f32) (w : FVec Ideal S128x128 .f32) (b : FVec Ideal S128 .f32) : FVec Ideal S4096x128 .f32 :=
  maximumf (addf (Host.dotGeneral dot_S4096x4096_S4096x128_S4096x128_1_0_0_1_n_n none (transpose S4096x4096 [1, 0] (mulf (mulf (broadcastInDim S4096x4096 ![0, 1] bcast_S4096x1_S4096x4096_0_1 d) (thirdV a)) (broadcastInDim S4096x4096 ![0, 1] bcast_S1x4096_S4096x4096_0_1 (transpose S1x4096 [1, 0] d transposes_S4096x1_S1x4096_1_0))) transposes_S4096x4096_S4096x4096_1_0) (Host.dotGeneral dot_S4096x128_S128x128_S4096x128_1_0_0_1_n_n none x w)) (broadcastInDim S4096x128 ![0, 1] bcast_S1x128_S4096x128_0_1 (broadcastInDim S1x128 ![1] bcast_S128_S1x128_1 b))) (broadcastInDim S4096x128 ![] bcast_S_S4096x128 (constant S_ .f32 0x00000000#32))

theorem thirdV_apply (a : FVec Ideal S4096x4096 .bf16) (r c : Fin 4096) : thirdV a (ix2 r c) = (mat a r c + mat a c r) * third := by
  rw [← div_three]
  pointwise [thirdV]

variable {a : FVec Ideal S4096x4096 .bf16} {d : FVec Ideal S4096x1 .f32} (ha : ∀ r c, 0 ≤ mat a r c) (hd : ∀ r, 0 ≤ col d r) (hd' : ∀ r, col d r ≠ ⊤)
include ha hd hd'

theorem layA_apply (y : FVec Ideal S4096x128 .bf16) (b : FVec Ideal S128 .f32) (c : Fin 4096) (j : Fin 128) :
    layA a y d b (ix2 c j) = sym (mat a) (mat y) (col d) (row b) c j := by
  rw [← sym_eq ha hd hd']
  pointwise [layA]
  simp only [thirdV_apply]

theorem layB_apply (x : FVec Ideal S4096x128 .f32) (w : FVec Ideal S128x128 .f32) (b : FVec Ideal S128 .f32) (c : Fin 4096) (j : Fin 128) :
    layB a x d w b (ix2 c j) = max (sym (mat a) (fun r j => col d r * mm (mat x) (mat w) r j) (col d) (row b) c j) 0 := by
  rw [← sym_eq ha hd hd']
  pointwise [layB]
  simp only [thirdV_apply]
  congr 2
  refine Finset.sum_congr rfl fun r _ => ?_
  show col d r * ((mat a r c + mat a c r) * third) * col d c * mm (mat x) (mat w) r j = _
  ac_rfl

/-- The whole decoder. -/
theorem dec_apply (y : FVec Ideal S4096x128 .bf16) (b g o b' : FVec Ideal S128 .f32) (w : FVec Ideal S128x128 .f32) (r : Fin 4096) (j : Fin 128) :
    layB a (RefSide.bnV (layA a y d b) g o) d w b' (ix2 r j) = dec (mat a) (mat y) (col d) (row b) (row g) (row o) (mat w) (row b') r j := by
  rw [layB_apply ha hd hd']
  have h : mat (RefSide.bnV (layA a y d b) g o) = bnr (sym (mat a) (mat y) (col d) (row b)) (row g) (row o) := by
    funext r j
    refine (RefSide.bnV_apply _ g o r j).trans ?_
    congr 1
    funext r j
    exact layA_apply ha hd hd' y b r j
  rw [h]
  rfl

omit ha hd hd'

variable (m : (ℓ : Loc nD τ sig) → Buf (Elt Ideal) ℓ) (c : Dev nD)

set_option maxHeartbeats 4000000 in
/-- The reference's result is the decoder of its arguments. -/
theorem res_eq : res_main_v45 m c =
    layB (m ((c.tc : Thread nD τ).loc main_arg0)) (RefSide.bnV (layA (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg6)) (m ((c.tc : Thread nD τ).loc main_arg7))) (m ((c.tc : Thread nD τ).loc main_arg2)) (m ((c.tc : Thread nD τ).loc main_arg4)) (m ((c.tc : Thread nD τ).loc main_arg5)) := rfl

end Cert.DecoderRef

end
-- ==== Proof.DecoderPre.lean ====
/-
  The decoder's precondition, read: the weights are nonnegative, the scales nonnegative and finite.
-/
module

public import proofs.«01_k».proof.Proof.Spec
public import proofs.«01_k».proof.Proof.Gen.Pre_weights
public import Idealize.ShloMosaic.Lib.ReduceAll
public import Idealize.ShloMosaic.Lib.Affine

@[expose] public section

noncomputable section

namespace Cert.DecoderPre

open Cert.Pre_weights Cert.Spec Idealize.ShloMosaic

theorem and_one {x y : BitVec 1} (h : IntOp.andi x y = 1#1) : x = 1#1 ∧ y = 1#1 := by
  simp only [IntOp.andi] at h
  revert h; decide +revert

theorem ofBool_one {b : Bool} (h : BitVec.ofBool b = 1#1) : b = true := by
  revert h; decide +revert

theorem zero_eq : Ideal.ofBits .f32 0x00000000#32 = 0 := by simp [Ideal.ofBits, Ideal.ieee]
theorem top_eq : Ideal.ofBits .f32 0x7F800000#32 = ⊤ := by simp [Ideal.ofBits, Ideal.ieee]

/-- What the precondition says of the arguments. -/
theorem reads (x0 : FVec Ideal S4096x4096 .bf16) (x1 : FVec Ideal S4096x128 .bf16) (x2 : FVec Ideal S4096x1 .f32) (x3 : FVec Ideal S128 .f32) (x4 : FVec Ideal S128x128 .f32)
    (x5 x6 x7 : FVec Ideal S128 .f32) (h : fn (F := Ideal) x0 x1 x2 x3 x4 x5 x6 x7 = fun _ => 1#1) :
    (∀ r c, 0 ≤ mat x0 r c) ∧ (∀ r, 0 ≤ col x2 r) ∧ ∀ r, col x2 r ≠ ⊤ := by
  have h0 := congrFun h ix0
  dsimp only [fn] at h0
  obtain ⟨h01, h2⟩ := and_one h0
  obtain ⟨h0, h1⟩ := and_one h01
  refine ⟨fun r c => ?_, fun r => ?_, fun r => ?_⟩
  · have e : Ideal.cmp .oge (x0 (ix2 r c)) (Ideal.ofBits .f32 0x00000000#32) = 1#1 := Host.reduce_andi_all _ _ _ _ _ h0 (ix2 r c)
    rw [zero_eq] at e
    exact of_decide_eq_true (ofBool_one e)
  · have e : Ideal.cmp .oge (x2 (ix2 r 0)) (Ideal.ofBits .f32 0x00000000#32) = 1#1 := Host.reduce_andi_all _ _ _ _ _ h1 (ix2 r 0)
    rw [zero_eq] at e
    exact of_decide_eq_true (ofBool_one e)
  · have e : Ideal.cmp .olt (x2 (ix2 r 0)) (Ideal.ofBits .f32 0x7F800000#32) = 1#1 := Host.reduce_andi_all _ _ _ _ _ h2 (ix2 r 0)
    rw [top_eq] at e
    exact (of_decide_eq_true (ofBool_one e)).ne

end Cert.DecoderPre

end
-- ==== Proof.DecoderEqual.lean ====
/-
  The decoder's claims: its run and its reference's end, and on the same arguments within the precondition the two
  results are one array.
-/
module

public import proofs.«01_k».proof.Defs
public import proofs.«01_k».proof.Proof.DecoderRun
public import proofs.«01_k».proof.Proof.DecoderRef
public import proofs.«01_k».proof.Proof.DecoderPre
public import proofs.«01_k».proof.Proof.Gen.Reference2Ideal

@[expose] public section

set_option maxRecDepth 16384

noncomputable section

namespace Cert.DecoderSide

open Cert.Spec Idealize.ShloMosaic Idealize.ShloMosaic.TcCoe Idealize.SL.Sem

/-- The named constant's value is the one the certificate's table gives it. -/
theorem preserves : Cert.preserves_Kernel2_Kernel2Ideal :=
  IdealRules.named_const.statement Cert.Kernel2Ideal.κ "third" .f32 0x3EAAAAAB#32 ((1 / 3 : ℝ) : EReal) rfl

/-- The reference's run ends and leaves its arguments. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two results are one array. -/
theorem algebraic : Cert.algebraic_Kernel2Ideal_Reference2Ideal_pre_weights := fun m ρ m' ρ' hp hag =>
  ⟨fun c => Kernel2Ideal.Gen.W4 m ρ c (Proc.devRef .tc Kernel2Ideal.main_v6), run_values m ρ,
    (θ_run Cert.Reference2Ideal.defs _ _).mono (fun r h c => ⟨(h c).1.trans (by
      obtain ⟨ha, hd, hd'⟩ := DecoderPre.reads _ _ _ _ _ _ _ _ (hp c)
      obtain ⟨e0, e1, e2, e3, e4, e5, e6, e7⟩ := hag c
      refine (DecoderRef.res_eq m' c).trans ?_
      rw [e0, e1, e2, e3, e4, e5, e6, e7]
      refine funext fun i => ?_
      obtain ⟨r, j, rfl⟩ : ∃ (r : Fin 4096) (j : Fin 128), i = ix2 r j := ⟨_, _, eq_ix2 i⟩
      exact (DecoderRef.dec_apply ha hd hd' _ _ _ _ _ _ r j).trans (result m ρ c r j).symm), (h c).2⟩)
      (Cert.Reference2Ideal.Value.run (F := Ideal) m' ρ')⟩

end Cert.DecoderSide

end
-- ==== Proof.WadjBody.lean ====
/- The body of the kernel call that weights the three adjacencies: what one grid point leaves in the five results'
   buffers, from what it finds in them and in the arguments' blocks. -/
module

public import proofs.«01_k».proof.Proof.Gen.Kernel3Ideal.Frame
public import proofs.«01_k».proof.Proof.Gen.Kernel3Ideal.Skeleton
public import Idealize.ShloMosaic.Lib.VecWindow
public import Idealize.ShloMosaic.Lib.WritesUnit

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal.Gen

variable {F : FTy → Type} [FloatOps F]

local notation "𝕄" => MT nD τ sig Unit (Elt F) ℕ (UR sig nD τ) ℕ

/-- The condition under which a point clears the column sums. -/
abbrev first (i : grid0.Coords) : Prop :=
  Scalar.cmpi .ne (Scalar.extui (Scalar.cmpi .eq (BitVec.ofNat 32 (i 0).val) 0#32) : BitVec 32) 0#32 = 1#1

/-- The column sums after a point, from those before it. -/
def csNext (i : grid0.Coords) (f t a : Vec F S256x4096 .bf16) (u v w : Vec F S256x1 .f32) (old : Vec F S1x4096 .f32) : Vec F S1x4096 .f32 :=
  k0_pay7 u f v t w a (open Classical in if first i then k0_pay6 else old)

/-- The row sums after a point, from those before it: the point's own rows replaced. -/
def rsNext (i : grid0.Coords) (f t a : Vec F S256x4096 .bf16) (u v w : Vec F S256x1 .f32) (old : Vec F S4096x1 .f32) : Vec F S4096x1 .f32 :=
  VecWindow.put old ![256 * (i 0).val, 0] S256x1.size (k0_pay5 u f v t w a)

theorem congr_pay1 {a a' : Vec F S1x4096 .f32} {b b' : Vec F S4096x1 .f32} (ha : a = a') (hb : b = b') : k0_pay1 a b = k0_pay1 a' b' := by
  subst ha hb; rfl

theorem congr_pay2 {a a' : Vec F S1x4096 .f32} {b b' : Vec F S4096x1 .f32} (ha : a = a') (hb : b = b') (c : Vec F S4096x64 .f32)
    (d : Vec F S64x128 .f32) : k0_pay2 a b c d = k0_pay2 a' b' c d := by
  subst ha hb; rfl

set_option maxHeartbeats 1000000 in
/-- One point of the body, from any contents of the results' buffers. -/
theorem body_runs (c : Dev nD) (i : grid0.Coords)
    (arg1 : Memref sig .tc .vmem S256x4096 .bf16) (harg1 : arg1.IsWhole) (arg2 : Memref sig .tc .vmem S256x4096 .bf16) (harg2 : arg2.IsWhole)
    (arg3 : Memref sig .tc .vmem S256x4096 .bf16) (harg3 : arg3.IsWhole) (arg4 : Memref sig .tc .vmem S256x1 .f32) (harg4 : arg4.IsWhole)
    (arg5 : Memref sig .tc .vmem S256x1 .f32) (harg5 : arg5.IsWhole) (arg6 : Memref sig .tc .vmem S256x1 .f32) (harg6 : arg6.IsWhole)
    (arg7 : Memref sig .tc .vmem S4096x64 .f32) (harg7 : arg7.IsWhole) (arg8 : Memref sig .tc .vmem S64x128 .f32) (harg8 : arg8.IsWhole)
    (arg9 : Memref sig .tc .vmem S256x4096 .bf16) (harg9 : arg9.IsWhole) (arg10 : Memref sig .tc .vmem S1x4096 .f32) (harg10 : arg10.IsWhole)
    (arg11 : Memref sig .tc .vmem S4096x1 .f32) (harg11 : arg11.IsWhole) (arg12 : Memref sig .tc .vmem S4096x128 .bf16) (harg12 : arg12.IsWhole)
    (arg13 : Memref sig .tc .vmem S4096x1 .f32) (harg13 : arg13.IsWhole)
    (x0 x1 x2 : Vec F S256x4096 .bf16) (x3 x4 x5 : Vec F S256x1 .f32) (x6 : Vec F S4096x64 .f32) (x7 : Vec F S64x128 .f32)
    (y8 : Vec F S256x4096 .bf16) (y9 : Vec F S1x4096 .f32) (y10 : Vec F S4096x1 .f32) (y11 : Vec F S4096x128 .bf16) (y12 : Vec F S4096x1 .f32)
    (hfl : first i → ¬ k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare y8 ∗ owns (c : Thread nD τ) arg10 fullShare y9 ∗ owns (c : Thread nD τ) arg11 fullShare y10
        ∗ owns (c : Thread nD τ) arg12 fullShare y11 ∗ owns (c : Thread nD τ) arg13 fullShare y12
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (k0_pay4 x3 x0 x4 x1 x5 x2)
            ∗ owns (c : Thread nD τ) arg10 fullShare (csNext i x0 x1 x2 x3 x4 x5 y9)
            ∗ owns (c : Thread nD τ) arg11 fullShare (rsNext i x0 x1 x2 x3 x4 x5 y10)
            ∗ owns (c : Thread nD τ) arg12 fullShare (open Classical in if k0_cond2 i = 1#1 then
                k0_pay2 (csNext i x0 x1 x2 x3 x4 x5 y9) (rsNext i x0 x1 x2 x3 x4 x5 y10) x6 x7 else y11)
            ∗ owns (c : Thread nD τ) arg13 fullShare (open Classical in if k0_cond2 i = 1#1 then
                k0_pay1 (csNext i x0 x1 x2 x3 x4 x5 y9) (rsNext i x0 x1 x2 x3 x4 x5 y10) else y12)) -∗ K ⟨⟩))
      ⊢ wp frame (wpE (defs₀ (F := F)) Variants.none c none) E
          (cc0__wadj_body i arg1 harg1 arg2 harg2 arg3 harg3 arg4 harg4 arg5 harg5 arg6 harg6 arg7 harg7 arg8 harg8 arg9 harg9 arg10 harg10
            arg11 harg11 arg12 harg12 arg13 harg13) K := by
  simp only [cc0__wadj_body_eq_skeleton]; unfold cc0__wadj_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7
  obtain rfl := harg9.eq_unread hf8; obtain rfl := harg10.eq_unread hf9; obtain rfl := harg11.eq_unread hf10; obtain rfl := harg12.eq_unread hf11
  obtain rfl := harg13.eq_unread hf12
  have rd : ∀ {s : Shape} {e : EltTy} {off : Fin s.rank → ℕ} (g : Memref sig .tc .vmem s e) (hg : g.IsWhole) (x : Vec F s e)
      (inb : ∀ a, off a + s.size a ≤ s.size a), g.view.readAt (Elt F) (Rect.unit off s.size inb).toLoadRect (hg.unread x) = x :=
    fun g hg x inb => (View.readAt_full _ _ _).trans (hg.read_unread _)
  have r0 := rd (off := ![0, 0]) arg1 harg1 x0 inb_S256x4096_S256x4096_0_0
  have r1 := rd (off := ![0, 0]) arg2 harg2 x1 inb_S256x4096_S256x4096_0_0
  have r2 := rd (off := ![0, 0]) arg3 harg3 x2 inb_S256x4096_S256x4096_0_0
  have r3 := rd (off := ![0, 0]) arg4 harg4 x3 inb_S256x1_S256x1_0_0
  have r4 := rd (off := ![0, 0]) arg5 harg5 x4 inb_S256x1_S256x1_0_0
  have r5 := rd (off := ![0, 0]) arg6 harg6 x5 inb_S256x1_S256x1_0_0
  have r6 := rd (off := ![0, 0]) arg7 harg7 x6 inb_S4096x64_S4096x64_0_0
  have r7 := rd (off := ![0, 0]) arg8 harg8 x7 inb_S64x128_S64x128_0_0
  have r9 := rd (off := ![0, 0]) arg10 harg10 y9 inb_S1x4096_S1x4096_0_0
  have hrs : arg11.view.read (Elt F) (arg11.view.writes (Elt F) (harg11.unread y10)
        [⟨Rect.unit (k0_off1 i) S256x1.size (k0_off1_inb i), k0_pay5 x3 x0 x4 x1 x5 x2⟩]) = rsNext i x0 x1 x2 x3 x4 x5 y10 := by
    refine (View.read_writes_cons_put _ _ (k0_off1_inb i) _ _ (k0_off1_eq i)).trans ?_
    rw [View.writes_nil, harg11.read_unread]
    rfl
  have hnext : ¬ first i → k0_pay7 x3 x0 x4 x1 x5 x2 y9 = csNext i x0 x1 x2 x3 x4 x5 y9 := fun h => by unfold csNext; rw [if_neg h]
  have hfirst : first i → k0_pay7 x3 x0 x4 x1 x5 x2 k0_pay6 = csNext i x0 x1 x2 x3 x4 x5 y9 := fun h => by unfold csNext; rw [if_pos h]
  by_cases hc0 : first i <;> by_cases hc1 : k0_cond2 i = 1#1
  · exact absurd hc1 (hfl hc0)
  all_goals
    have hf := hc0
    unfold first at hc0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; rotate_left
      · iexact H8
      · ipureintro
        exact View.read_writes_full _ _ _ _ _
    isplitl [H9]
    · iexists _; isplitr; rotate_left
      · iexact H9
      · ipureintro
        refine (View.read_writes_full _ _ inb_S1x4096_S1x4096_0_0 _ _).trans ?_
        first
          | exact hnext hf
          | unfold body_runs.sl.r body_runs.sl.v27 body_runs.sl.H9_1
            rw [View.readCov_full]
            exact hfirst hf
    isplitl [H10]
    · iexists _; isplitr; rotate_left
      · iexact H10
      · ipureintro
        exact hrs
    isplitl [H11]
    · iexists _; isplitr; rotate_left
      · iexact H11
      · ipureintro
        first
          | rw [if_neg hc1]
            exact harg12.read_unread _
          | rw [if_pos hc1]
            refine (View.read_writes_full _ _ inb_S4096x128_S4096x128_0_0 _ _).trans ?_
            unfold body_runs.sl.v36 body_runs.sl.v39
            refine congr_pay2 ?_ ?_ x6 x7
            · unfold body_runs.sl.H9_1_1
              exact (View.readCov_full _ inb_S1x4096_S1x4096_0_0 inb_S1x4096_S1x4096_0_0 _ _).trans (hnext hf)
            · unfold body_runs.sl.H10_1
              exact (View.readAt_full _ _ inb_S4096x1_S4096x1_0_0).trans hrs
    · iexists _; isplitr; rotate_left
      · iexact H12
      · ipureintro
        first
          | rw [if_neg hc1]
            exact harg13.read_unread _
          | rw [if_pos hc1]
            refine (View.read_writes_full _ _ inb_S4096x1_S4096x1_0_0 _ _).trans ?_
            unfold body_runs.sl.v36 body_runs.sl.v39
            refine congr_pay1 ?_ ?_
            · unfold body_runs.sl.H9_1_1
              exact (View.readCov_full _ inb_S1x4096_S1x4096_0_0 inb_S1x4096_S1x4096_0_0 _ _).trans (hnext hf)
            · unfold body_runs.sl.H10_1
              exact (View.readAt_full _ _ inb_S4096x1_S4096x1_0_0).trans hrs

end Cert.Kernel3Ideal.Hand

end
-- ==== Proof.WadjRun.lean ====
/- The run of the kernel call that weights the three adjacencies: what its five results hold after the last grid point.
   The column sums pile up from point to point, the row sums are filled in a block of rows at a time, and the last point
   computes the inverse roots and the scaled product. -/
module

public import proofs.«01_k».proof.Proof.WadjBody
public import Idealize.ShloMosaic.Lib.Pipeline.DatRel
public import Idealize.ShloMosaic.Lib.Pipeline.ArrRel
public import Idealize.ShloMosaic.Lib.Pipeline.Frame

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg BodyObligationRel)
open Cert.Kernel3Ideal.Gen

variable {F : FTy → Type} [FloatOps F]

variable (m : (ℓ : Loc nD τ sig) → Buf (Elt F) ℓ) (ρ : Dev nD → PrngReg)

/-- A grid point from its number. -/
abbrev pt (n : ℕ) (h : n < 16) : Fin cfg0.N := ⟨n, Nat.lt_of_lt_of_eq h N_0.symm⟩

theorem coords_val (t : Fin cfg0.N) : (grid0.coords t 0).val = t.val % 16 := by
  have e0 : (grid0.coords t 0).val = t.val / 1 % 16 := Pipeline.Grid.coords_val t 0 (by decide) rfl
  rw [e0, Nat.div_one]

theorem first_iff (t : Fin cfg0.N) : first (grid0.coords t) ↔ t.val = 0 := by
  have ht : t.val < 16 := Nat.lt_of_lt_of_eq t.isLt N_0
  have e0 := coords_val t
  unfold first
  simp only [e0]
  word_cmp

theorem last_iff (t : Fin cfg0.N) : k0_cond2 (grid0.coords t) = 1#1 ↔ t.val = 15 := by
  have ht : t.val < 16 := Nat.lt_of_lt_of_eq t.isLt N_0
  have e0 := coords_val t
  simp only [k0_cond2, e0]
  word_cmp

/-- The weighted block of a point, narrowed. -/
def blockAt (c : Dev nD) (t : Fin cfg0.N) : Vec F S256x4096 .bf16 :=
  k0_pay4 (iblk m c 3 t) (iblk m c 0 t) (iblk m c 4 t) (iblk m c 1 t) (iblk m c 5 t) (iblk m c 2 t)

/-- The row sums of a point's weighted block. -/
def rowsAt (c : Dev nD) (t : Fin cfg0.N) : Vec F S256x1 .f32 :=
  k0_pay5 (iblk m c 3 t) (iblk m c 0 t) (iblk m c 4 t) (iblk m c 1 t) (iblk m c 5 t) (iblk m c 2 t)

/-- A point's column sums added to given ones. -/
def colsAdd (c : Dev nD) (t : Fin cfg0.N) (old : Vec F S1x4096 .f32) : Vec F S1x4096 .f32 :=
  k0_pay7 (iblk m c 3 t) (iblk m c 0 t) (iblk m c 4 t) (iblk m c 1 t) (iblk m c 5 t) (iblk m c 2 t) old

/-- The column sums after point `n`. -/
def colSums (c : Dev nD) : (n : ℕ) → n < 16 → Vec F S1x4096 .f32
  | 0, h => colsAdd m c (pt 0 h) k0_pay6
  | n + 1, h => colsAdd m c (pt (n + 1) h) (colSums c n (Nat.lt_of_succ_lt h))

/-- All the row sums. -/
def rowSums (c : Dev nD) : Vec F S4096x1 .f32 := fun y =>
  have hy : (y 0).val < 4096 := (y 0).isLt
  rowsAt m c (pt ((y 0).val / 256) (by omega)) fun a => match a with
    | ⟨0, _⟩ => ⟨(y 0).val % 256, Nat.mod_lt _ (by decide)⟩
    | ⟨1, _⟩ => ⟨0, Nat.zero_lt_one⟩

/-- The inverse roots of the degrees. -/
def rootsEnd (c : Dev nD) : Vec F S4096x1 .f32 := k0_pay1 (colSums m c 15 (by decide)) (rowSums m c)

/-- The scaled product. -/
def prodEnd (c : Dev nD) : Vec F S4096x128 .bf16 :=
  k0_pay2 (colSums m c 15 (by decide)) (rowSums m c) (iblk m c 6 (pt 15 (by decide))) (iblk m c 7 (pt 15 (by decide)))

/-- The proof data: the arguments' blocks stay as they are; of the results nothing is named here. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | w => Dat.unnamed w t
  Φ _ := Pipeline.ΦA spec0 c
  q _ := fullShare
  owed _ := 0

/-- The results' windows. -/
def outW : Fin cfg0.W → Bool := fun w => Nat.ble 8 w.val

/-- What a point leaves in each result's buffer. -/
def leftBy (c : Dev nD) (w : Fin cfg0.W) (t : Fin cfg0.N) (X : (cfg0.win w).block.Idx → Elt F (cfg0.win w).elt) : Prop :=
  match w, X with
  | ⟨8, _⟩, X => X = blockAt m c t
  | ⟨9, _⟩, X => X = colSums m c t.val (Nat.lt_of_lt_of_eq t.isLt N_0)
  | ⟨10, _⟩, X => ∀ y : S4096x1.Idx, (y 0).val < 256 * (t.val + 1) → X y = rowSums m c y
  | ⟨11, _⟩, X => t.val = 15 → X = prodEnd m c
  | ⟨12, _⟩, X => t.val = 15 → X = rootsEnd m c
  | _, _ => True

abbrev rdat (c : Dev nD) : RDat τ (Elt F) Unit ℕ (UR sig nD τ) ℕ cfg0 c := (dat m c).toRRel outW (leftBy m c)

theorem A_eq (c : Dev nD) (w : Fin cfg0.W) : (dat m c).A w = V m c (Pipeline.arrRef spec0 w) := by dsimp only [dat]

/-- What a point finds in the buffer of the column sums. -/
theorem finds_cols (c : Dev nD) (t : Fin cfg0.N) (ht : t.val ≠ 0) (X : Vec F S1x4096 .f32) (h : (rdat m c).Finds 9 t X) :
    X = colSums m c (t.val - 1) (by have := Nat.lt_of_lt_of_eq t.isLt N_0; omega) := by
  have hN := Nat.lt_of_lt_of_eq t.isLt N_0
  rcases ((rdat m c).finds_of_pos (w := 9) (t := t) rfl ht X).mp h with hf | hl
  · have := (flush0_9 _).mp hf
    simp only at this
    omega
  · exact (dat m c).toRRel_leaves (w := 9) rfl hl

/-- What a point finds in the buffer of the row sums: the rows of the earlier points. -/
theorem finds_rows (c : Dev nD) (t : Fin cfg0.N) (X : Vec F S4096x1 .f32) (h : (rdat m c).Finds 10 t X) :
    ∀ y : S4096x1.Idx, (y 0).val < 256 * t.val → X y = rowSums m c y := by
  have hN := Nat.lt_of_lt_of_eq t.isLt N_0
  intro y hy
  have ht : t.val ≠ 0 := fun e => by rw [e] at hy; omega
  rcases ((rdat m c).finds_of_pos (w := 10) (t := t) rfl ht X).mp h with hf | hl
  · have := (flush0_10 _).mp hf
    simp only at this
    omega
  · exact (dat m c).toRRel_leaves (w := 10) rfl hl y (by simp only; omega)

theorem cols_next (c : Dev nD) (t : Fin cfg0.N) (X : Vec F S1x4096 .f32) (h : (rdat m c).Finds 9 t X) :
    csNext (grid0.coords t) (iblk m c 0 t) (iblk m c 1 t) (iblk m c 2 t) (iblk m c 3 t) (iblk m c 4 t) (iblk m c 5 t) X
      = colSums m c t.val (Nat.lt_of_lt_of_eq t.isLt N_0) := by
  unfold csNext
  by_cases h0 : t.val = 0
  · rw [if_pos ((first_iff t).mpr h0)]
    obtain ⟨n, hn⟩ := t
    simp only at h0
    subst h0
    rfl
  · rw [if_neg (fun e => h0 ((first_iff t).mp e)), finds_cols m c t h0 X h]
    obtain ⟨n, hn⟩ := t
    cases n with
    | zero => exact absurd rfl h0
    | succ n => rfl

theorem rows_next (c : Dev nD) (t : Fin cfg0.N) (X : Vec F S4096x1 .f32) (h : (rdat m c).Finds 10 t X) (y : S4096x1.Idx)
    (hy : (y 0).val < 256 * (t.val + 1)) :
    rsNext (grid0.coords t) (iblk m c 0 t) (iblk m c 1 t) (iblk m c 2 t) (iblk m c 3 t) (iblk m c 4 t) (iblk m c 5 t) X y
      = rowSums m c y := by
  have hN := Nat.lt_of_lt_of_eq t.isLt N_0
  have e : (grid0.coords t 0).val = t.val := (coords_val t).trans (Nat.mod_eq_of_lt hN)
  have h1 : (y 1).val = 0 := Nat.lt_one_iff.mp (y 1).isLt
  unfold rsNext VecWindow.put
  rw [e]
  by_cases hlt : (y 0).val < 256 * t.val
  · rw [dif_neg (fun hh => by have := (hh 0).1; simp at this; omega)]
    exact finds_rows m c t X h y hlt
  · rw [dif_pos (Fin.forall_fin_two.mpr ⟨⟨Nat.not_lt.mp hlt, by show (y 0).val < 256 * t.val + 256; omega⟩, ⟨Nat.zero_le _, by show (y 1).val < 0 + 1; omega⟩⟩)]
    have ediv : (y 0).val / 256 = t.val := by omega
    have emod : (y 0).val % 256 = (y 0).val - 256 * t.val := by omega
    have ept : ∀ h, pt ((y 0).val / 256) h = t := fun _ => Fin.ext ediv
    show _ = rowsAt m c (pt ((y 0).val / 256) _) _
    rw [ept]
    refine congrArg (rowsAt m c t) (funext fun a => Fin.ext ?_)
    match a with
    | ⟨0, _⟩ => exact emod.symm
    | ⟨1, _⟩ => show (y 1).val - 0 = 0; omega

theorem point_runs (c : Dev nD) (t : Fin cfg0.N) :
    iprop((dat m c).Φ t.castSucc ∗ (dat m c).owesAt () t.castSucc
      ∗ (∃ d, owns (c : Thread nD τ) (win0_0.stage (cfg0.slots t 0)) fullShare ((dat m c).before 0 t d))
      ∗ (∃ d, owns (c : Thread nD τ) (win0_1.stage (cfg0.slots t 1)) fullShare ((dat m c).before 1 t d))
      ∗ (∃ d, owns (c : Thread nD τ) (win0_2.stage (cfg0.slots t 2)) fullShare ((dat m c).before 2 t d))
      ∗ (∃ d, owns (c : Thread nD τ) (win0_3.stage (cfg0.slots t 3)) fullShare ((dat m c).before 3 t d))
      ∗ (∃ d, owns (c : Thread nD τ) (win0_4.stage (cfg0.slots t 4)) fullShare ((dat m c).before 4 t d))
      ∗ (∃ d, owns (c : Thread nD τ) (win0_5.stage (cfg0.slots t 5)) fullShare ((dat m c).before 5 t d))
      ∗ (∃ d, owns (c : Thread nD τ) (win0_6.stage (cfg0.slots t 6)) fullShare ((dat m c).before 6 t d))
      ∗ (∃ d, owns (c : Thread nD τ) (win0_7.stage (cfg0.slots t 7)) fullShare ((dat m c).before 7 t d))
      ∗ (∃ Y, ⌜(rdat m c).Finds 8 t Y⌝ ∗ owns (c : Thread nD τ) (win0_8.stage (cfg0.slots t 8)) fullShare Y)
      ∗ (∃ Y, ⌜(rdat m c).Finds 9 t Y⌝ ∗ owns (c : Thread nD τ) (win0_9.stage (cfg0.slots t 9)) fullShare Y)
      ∗ (∃ Y, ⌜(rdat m c).Finds 10 t Y⌝ ∗ owns (c : Thread nD τ) (win0_10.stage (cfg0.slots t 10)) fullShare Y)
      ∗ (∃ Y, ⌜(rdat m c).Finds 11 t Y⌝ ∗ owns (c : Thread nD τ) (win0_11.stage (cfg0.slots t 11)) fullShare Y)
      ∗ (∃ Y, ⌜(rdat m c).Finds 12 t Y⌝ ∗ owns (c : Thread nD τ) (win0_12.stage (cfg0.slots t 12)) fullShare Y))
    ⊢ wp frame (wpE (defs₀ (F := F)) Variants.none c none) Set.univ (bodyAt0 t) (fun _ =>
      iprop((dat m c).Φ t.succ ∗ (dat m c).owesAt () t.succ
        ∗ owns (c : Thread nD τ) (win0_0.stage (cfg0.slots t 0)) fullShare ((dat m c).after 0 t)
        ∗ owns (c : Thread nD τ) (win0_1.stage (cfg0.slots t 1)) fullShare ((dat m c).after 1 t)
        ∗ owns (c : Thread nD τ) (win0_2.stage (cfg0.slots t 2)) fullShare ((dat m c).after 2 t)
        ∗ owns (c : Thread nD τ) (win0_3.stage (cfg0.slots t 3)) fullShare ((dat m c).after 3 t)
        ∗ owns (c : Thread nD τ) (win0_4.stage (cfg0.slots t 4)) fullShare ((dat m c).after 4 t)
        ∗ owns (c : Thread nD τ) (win0_5.stage (cfg0.slots t 5)) fullShare ((dat m c).after 5 t)
        ∗ owns (c : Thread nD τ) (win0_6.stage (cfg0.slots t 6)) fullShare ((dat m c).after 6 t)
        ∗ owns (c : Thread nD τ) (win0_7.stage (cfg0.slots t 7)) fullShare ((dat m c).after 7 t)
        ∗ (∃ X, ⌜leftBy m c 8 t X⌝ ∗ owns (c : Thread nD τ) (win0_8.stage (cfg0.slots t 8)) fullShare X)
        ∗ (∃ X, ⌜leftBy m c 9 t X⌝ ∗ owns (c : Thread nD τ) (win0_9.stage (cfg0.slots t 9)) fullShare X)
        ∗ (∃ X, ⌜leftBy m c 10 t X⌝ ∗ owns (c : Thread nD τ) (win0_10.stage (cfg0.slots t 10)) fullShare X)
        ∗ (∃ X, ⌜leftBy m c 11 t X⌝ ∗ owns (c : Thread nD τ) (win0_11.stage (cfg0.slots t 11)) fullShare X)
        ∗ (∃ X, ⌜leftBy m c 12 t X⌝ ∗ owns (c : Thread nD τ) (win0_12.stage (cfg0.slots t 12)) fullShare X))) := by
  unfold bodyAt0
  simp only [before0_0_of m (dat m c) (A_eq m c 0) (fun _ => rfl) t, before0_1_of m (dat m c) (A_eq m c 1) (fun _ => rfl) t, before0_2_of m (dat m c) (A_eq m c 2) (fun _ => rfl) t, before0_3_of m (dat m c) (A_eq m c 3) (fun _ => rfl) t, before0_4_of m (dat m c) (A_eq m c 4) (fun _ => rfl) t, before0_5_of m (dat m c) (A_eq m c 5) (fun _ => rfl) t, before0_6_of m (dat m c) (A_eq m c 6) (fun _ => rfl) t, before0_7_of m (dat m c) (A_eq m c 7) (fun _ => rfl) t]
  rw [show (dat m c).Φ t.succ = (dat m c).Φ t.castSucc from rfl,
    show (dat m c).owesAt () t.succ = (dat m c).owesAt () t.castSucc from rfl]
  have hN := Nat.lt_of_lt_of_eq t.isLt N_0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%Y9, %hY9, H9⟩, ⟨%Y10, %hY10, H10⟩, ⟨%Y11, %hY11, H11⟩, ⟨%Y12, %hY12, H12⟩⟩
  iapply (body_runs c (grid0.coords t) _ _ _ _ _ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) Y8 Y9 Y10 Y11 Y12
    (fun hf hl => by have := (first_iff t).mp hf; have := (last_iff t).mp hl; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; rotate_left
    · iexact H8
    · ipureintro
      rfl
  isplitl [H9]
  · iexists _; isplitr; rotate_left
    · iexact H9
    · ipureintro
      exact cols_next m c t Y9 hY9
  isplitl [H10]
  · iexists _; isplitr; rotate_left
    · iexact H10
    · ipureintro
      exact rows_next m c t Y10 hY10
  isplitl [H11]
  · iexists _; isplitr; rotate_left
    · iexact H11
    · ipureintro
      intro h15
      rw [if_pos ((last_iff t).mpr h15), cols_next m c t Y9 hY9,
        funext fun y : S4096x1.Idx => rows_next m c t Y10 hY10 y (by have : (y 0).val < 4096 := (y 0).isLt; omega)]
      have et : t = pt 15 (by decide) := Fin.ext h15
      subst et
      rfl
  · iexists _; isplitr; rotate_left
    · iexact H12
    · ipureintro
      intro h15
      rw [if_pos ((last_iff t).mpr h15), cols_next m c t Y9 hY9,
        funext fun y : S4096x1.Idx => rows_next m c t Y10 hY10 y (by have : (y 0).val < 4096 := (y 0).isLt; omega)]
      have et : t = pt 15 (by decide) := Fin.ext h15
      subst et
      rfl

theorem defs₀_row (t : Fin cfg0.N) : defs₀ (F := F) .tc cfg0.body (cfg0.bodyArgs t (cfg0.slots t)) = bodyAt0 t := by
  unfold defs₀; rw [Defs.onTc_tc]

theorem obligation (c : Dev nD) : BodyObligationRel (dat m c) (defs₀ (F := F)) Variants.none () Set.univ outW (leftBy m c) := fun t => by
  rw [bigSep_W0, bigSep_W0, defs₀_row]
  exact triple_restated (point_runs m c t) rfl .rfl fun _ => .rfl

theorem run : θ_run defs (onTc (τ := τ) (main (F := F))) (s₀ m ρ)
    (fun r => RDat.FramePost cfg0 (rdat m) (V m) r ∧ r.2.sem = fun _ => 0) :=
  RDat.θ_run_frame cfgs 0 launch0 defs₀ Variants.none (rdat m) m ρ main (fun c => (obligation m c).toRRel) (fun c w => (dat m c).share_full (fun _ => rfl) w)
    (fun _ _ => rfl) (V m) (hmain m Variants.none) (fun c w => A_eq m c w) (fun _ _ => rfl) _ (fun _ h => h)

end Cert.Kernel3Ideal.Hand

end
-- ==== Proof.WadjSpec.lean ====
/-
  The mathematics of the weighted adjacency on the extended reals, and the reference's five results read as it.
-/
module

public import proofs.«01_k».proof.Proof.DecoderSpec
public import proofs.«01_k».proof.Proof.RefValue
public import proofs.«01_k».proof.Proof.Gen.Reference3Ideal.Run
public import Idealize.ShloMosaic.Lib.Pipeline.ValueKit

@[expose] public section

set_option maxRecDepth 16384

noncomputable section

namespace Cert.Spec

open Idealize.ShloMosaic

variable {n k l : ℕ}

/-- Three arrays added, each row weighted. -/
def wsum (u v w : Fin n → EReal) (a b c : Mat n k) : Mat n k := fun r j => u r * a r j + v r * b r j + w r * c r j

/-- The inverse roots of the degrees of an array averaged with its transpose. -/
def roots (a : Mat n n) (j : Fin n) : EReal := inv (((∑ r, a r j) + ∑ r, a j r) * third)

/-- Each entry divided by three first. -/
theorem roots_eq (a : Mat n n) (j : Fin n) : inv (∑ r, (a r j + a j r) * third) = roots a j := by
  unfold roots
  rw [← Finset.sum_add_distrib, sum_mul_of_nonneg _ _ third_nonneg third_ne_top]

/-- The rows of a product scaled by the roots. -/
def rootsMul (a : Mat n n) (x : Mat n k) (w : Mat k l) : Mat n l := fun r j => roots a r * mm x w r j

end Cert.Spec

namespace Cert.WadjRef

open Cert.Reference3Ideal Cert.Reference3Ideal.Gen Cert.Reference3Ideal.Value Cert.Spec Idealize.ShloMosaic Idealize.ShloMosaic.TcCoe Idealize.SL.Sem Idealize.ShloMosaic.StableHlo

/-- The weighted sum of the three adjacencies. -/
def sumV (f t i : FVec Ideal S4096x4096 .bf16) (u v w : FVec Ideal S4096x1 .f32) : FVec Ideal S4096x4096 .f32 :=
  addf (addf (mulf (broadcastInDim S4096x4096 ![0, 1] bcast_S4096x1_S4096x4096_0_1 u) (extf .f32 f bitsLt_bf16_f32)) (mulf (broadcastInDim S4096x4096 ![0, 1] bcast_S4096x1_S4096x4096_0_1 v) (extf .f32 t bitsLt_bf16_f32))) (mulf (broadcastInDim S4096x4096 ![0, 1] bcast_S4096x1_S4096x4096_0_1 w) (extf .f32 i bitsLt_bf16_f32))

/-- An array averaged with its transpose, a third of each. -/
def avgT (a : FVec Ideal S4096x4096 .f32) : FVec Ideal S4096x4096 .f32 :=
  Host.divf (addf a (transpose S4096x4096 [1, 0] a transposes_S4096x4096_S4096x4096_1_0)) (broadcastInDim S4096x4096 ![] bcast_S_S4096x4096 (constant S_ .f32 0x40400000#32))

/-- The inverse roots of the column sums. -/
def rootsV (a : FVec Ideal S4096x4096 .f32) : FVec Ideal S4096 .f32 := RefSide.disV (RefSide.degV (avgT a))

/-- The scaled product. -/
def prodV (d : FVec Ideal S4096 .f32) (x : FVec Ideal S4096x64 .f32) (w : FVec Ideal S64x128 .f32) : FVec Ideal S4096x128 .bf16 :=
  truncf .bf16 (mulf (broadcastInDim S4096x128 ![0, 1] bcast_S4096x1_S4096x128_0_1 (broadcastInDim S4096x1 ![0] bcast_S4096_S4096x1_0 d)) (Host.dotGeneral dot_S4096x64_S64x128_S4096x128_1_0_0_1_n_n none x w)) bitsLt_bf16_f32

/-- The column sums, as one row. -/
def colsV (a : FVec Ideal S4096x4096 .f32) : FVec Ideal S1x4096 .f32 :=
  broadcastInDim S1x4096 ![1] bcast_S4096_S1x4096_1 (Host.reduceAdd a (constant S_ .f32 0x00000000#32) reducesTo_S4096x4096_S4096_d0 h_S_)

/-- The row sums, as one column. -/
def rowsV (a : FVec Ideal S4096x4096 .f32) : FVec Ideal S4096x1 .f32 :=
  broadcastInDim S4096x1 ![0] bcast_S4096_S4096x1_0 (Host.reduceAdd a (constant S_ .f32 0x00000000#32) reducesTo_S4096x4096_S4096_d1 h_S_)

theorem sumV_apply (f t i : FVec Ideal S4096x4096 .bf16) (u v w : FVec Ideal S4096x1 .f32) (r j : Fin 4096) :
    sumV f t i u v w (ix2 r j) = wsum (col u) (col v) (col w) (mat f) (mat t) (mat i) r j := by
  unfold wsum
  pointwise [sumV]

theorem avgT_apply (a : FVec Ideal S4096x4096 .f32) (r j : Fin 4096) : avgT a (ix2 r j) = (mat a r j + mat a j r) * third := by
  rw [← div_three]
  pointwise [avgT]

theorem rootsV_apply (a : FVec Ideal S4096x4096 .f32) (j : Fin 4096) : rootsV a (ix1 j) = roots (mat a) j := by
  rw [← roots_eq]
  unfold rootsV
  rw [RefSide.disV_apply, RefSide.degV_apply]
  unfold deg
  simp only [mat, avgT_apply]

theorem prodV_apply (a : FVec Ideal S4096x4096 .f32) (x : FVec Ideal S4096x64 .f32) (w : FVec Ideal S64x128 .f32) (r : Fin 4096) (j : Fin 128) :
    prodV (rootsV a) x w (ix2 r j) = rootsMul (mat a) (mat x) (mat w) r j := by
  unfold rootsMul mm
  rw [← rootsV_apply]
  pointwise [prodV]

theorem colsV_apply (a : FVec Ideal S4096x4096 .f32) (j : Fin 4096) : colsV a (ix2 0 j) = ∑ r, mat a r j := by
  pointwise [colsV]

theorem rowsV_apply (a : FVec Ideal S4096x4096 .f32) (r : Fin 4096) : rowsV a (ix2 r 0) = ∑ j, mat a r j := by
  pointwise [rowsV]

/-- The inverse roots, as one column. -/
def rootsCol (a : FVec Ideal S4096x4096 .f32) : FVec Ideal S4096x1 .f32 := broadcastInDim S4096x1 ![0] bcast_S4096_S4096x1_0 (rootsV a)

theorem rootsCol_apply (a : FVec Ideal S4096x4096 .f32) (r : Fin 4096) : rootsCol a (ix2 r 0) = roots (mat a) r := by
  rw [← rootsV_apply]
  pointwise [rootsCol]

section
variable {a : FVec Ideal S4096x4096 .f32} {s : Mat 4096 4096} (h : mat a = s)
include h

theorem narrow_eq : (truncf .bf16 a bitsLt_bf16_f32 : FVec Ideal S4096x4096 .bf16) = fun i => s (i 0) (i 1) := by
  subst h
  funext i
  rw [eq_ix2 i]
  rfl

theorem colsV_eq : colsV a = fun i => ∑ r, s r (i 1) := by
  subst h
  funext i
  have hi : i = ix2 0 (i 1) := by blk_ext
  rw [hi]
  exact colsV_apply a (i 1)

theorem rowsV_eq : rowsV a = fun i => ∑ j, s (i 0) j := by
  subst h
  funext i
  have hi : i = ix2 (i 0) 0 := by blk_ext
  rw [hi]
  exact rowsV_apply a (i 0)

theorem prodV_eq (x : FVec Ideal S4096x64 .f32) (w : FVec Ideal S64x128 .f32) :
    prodV (rootsV a) x w = fun i => rootsMul s (mat x) (mat w) (i 0) (i 1) := by
  subst h
  funext i
  rw [eq_ix2 i]
  exact prodV_apply a x w (i 0) (i 1)

theorem rootsCol_eq : rootsCol a = fun i => roots s (i 0) := by
  subst h
  funext i
  have hi : i = ix2 (i 0) 0 := by blk_ext
  rw [hi]
  exact rootsCol_apply a (i 0)

end

variable (m : (ℓ : Loc nD τ sig) → Buf (Elt Ideal) ℓ) (c : Dev nD)

/-- The weighted sum of the arguments. -/
abbrev sumOf : FVec Ideal S4096x4096 .f32 :=
  sumV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

end Cert.WadjRef

end
-- ==== Proof.WadjEnd.lean ====
/-
  The kernel call that weights the three adjacencies: its five results, entry by entry, from its arguments.
-/
module

public import proofs.«01_k».proof.Proof.WadjRun
public import proofs.«01_k».proof.Proof.WadjSpec
public import Idealize.ShloMosaic.Lib.Pipeline.ValueKit

@[expose] public section

set_option maxRecDepth 16384

noncomputable section

namespace Cert.WadjSide

open Cert.Kernel3Ideal Cert.Kernel3Ideal.Gen Cert.Kernel3Ideal.Hand Cert.Spec Idealize.ShloMosaic Idealize.ShloMosaic.TcCoe

/-! ### The body's values at an entry -/

theorem k0_pay3_apply (u v w : Vec Ideal S256x1 .f32) (f t i : Vec Ideal S256x4096 .bf16) (r : Fin 256) (j : Fin 4096) :
    k0_pay3 u f v t w i (ix2 r j) = u (ix2 r 0) * f (ix2 r j) + v (ix2 r 0) * t (ix2 r j) + w (ix2 r 0) * i (ix2 r j) := by
  pointwise [k0_pay3]

theorem k0_pay4_apply (u v w : Vec Ideal S256x1 .f32) (f t i : Vec Ideal S256x4096 .bf16) (r : Fin 256) (j : Fin 4096) :
    k0_pay4 u f v t w i (ix2 r j) = k0_pay3 u f v t w i (ix2 r j) := by
  pointwise [k0_pay4]

theorem k0_pay5_apply (u v w : Vec Ideal S256x1 .f32) (f t i : Vec Ideal S256x4096 .bf16) (r : Fin 256) :
    k0_pay5 u f v t w i (ix2 r 0) = ∑ j : Fin 4096, k0_pay3 u f v t w i (ix2 r j) := by
  pointwise [k0_pay5]

theorem k0_pay6_apply (j : Fin 4096) : k0_pay6 (F := Ideal) (ix2 0 j) = 0 := by
  pointwise [k0_pay6]

theorem k0_pay7_apply (u v w : Vec Ideal S256x1 .f32) (f t i : Vec Ideal S256x4096 .bf16) (old : Vec Ideal S1x4096 .f32) (j : Fin 4096) :
    k0_pay7 u f v t w i old (ix2 0 j) = old (ix2 0 j) + ∑ r : Fin 256, k0_pay3 u f v t w i (ix2 r j) := by
  pointwise [k0_pay7]

theorem k0_pay1_apply (s : Vec Ideal S1x4096 .f32) (t : Vec Ideal S4096x1 .f32) (r : Fin 4096) :
    k0_pay1 s t (ix2 r 0) = Spec.inv ((s (ix2 0 r) + t (ix2 r 0)) * third) := by
  rw [← div_three]
  unfold Spec.inv
  pointwise [k0_pay1]

theorem k0_pay2_apply (s : Vec Ideal S1x4096 .f32) (t : Vec Ideal S4096x1 .f32) (x : Vec Ideal S4096x64 .f32) (w : Vec Ideal S64x128 .f32) (r : Fin 4096) (j : Fin 128) :
    k0_pay2 s t x w (ix2 r j) = k0_pay1 s t (ix2 r 0) * mm (mat (φ := .f32) x) (mat (φ := .f32) w) r j := by
  unfold mm
  pointwise [k0_pay2]

/-! ### The blocks -/

variable (m : (ℓ : Loc nD τ sig) → Buf (Elt Ideal) ℓ)

/-- The weighted sum of the arguments. -/
def wadj (c : Dev nD) : Mat 4096 4096 :=
  wsum (col (φ := .f32) (V m c main_arg3)) (col (φ := .f32) (V m c main_arg4)) (col (φ := .f32) (V m c main_arg5))
    (mat (φ := .bf16) (V m c main_arg0)) (mat (φ := .bf16) (V m c main_arg1)) (mat (φ := .bf16) (V m c main_arg2))

theorem idx_in : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] :=
  (by decide +kernel : ∀ t : Fin grid0.N, _)
theorem idx_out : ∀ t : Fin cfg0.N, win0_8.index t = ![t.val, 0] ∧ win0_9.index t = ![0, 0] ∧ win0_10.index t = ![0, 0] ∧ win0_11.index t = ![0, 0]
    ∧ win0_12.index t = ![0, 0] :=
  (by decide +kernel : ∀ t : Fin grid0.N, _)

/-- The weighted block of a point is a block of rows of the weighted sum. -/
theorem block_eq (c : Dev nD) (t : Fin cfg0.N) (r : Fin 256) (p j : Fin 4096) (h : (p : ℕ) = t.val * 256 + (r : ℕ)) :
    k0_pay3 (iblk m c 3 t) (iblk m c 0 t) (iblk m c 4 t) (iblk m c 1 t) (iblk m c 5 t) (iblk m c 2 t) (ix2 r j) = wadj m c p j := by
  obtain ⟨e0, e1, e2, e3, e4, e5, e6, e7⟩ := idx_in t
  rw [k0_pay3_apply]
  unfold wadj wsum
  have r0 : iblk m c 0 t (ix2 r j) = V m c main_arg0 (ix2 p j) := by blk_ext! [iblk, e0, h]
  have r1 : iblk m c 1 t (ix2 r j) = V m c main_arg1 (ix2 p j) := by blk_ext! [iblk, e1, h]
  have r2 : iblk m c 2 t (ix2 r j) = V m c main_arg2 (ix2 p j) := by blk_ext! [iblk, e2, h]
  have r3 : iblk m c 3 t (ix2 r 0) = V m c main_arg3 (ix2 p 0) := by blk_ext! [iblk, e3, h]
  have r4 : iblk m c 4 t (ix2 r 0) = V m c main_arg4 (ix2 p 0) := by blk_ext! [iblk, e4, h]
  have r5 : iblk m c 5 t (ix2 r 0) = V m c main_arg5 (ix2 p 0) := by blk_ext! [iblk, e5, h]
  exact congrArg₂ (· + ·) (congrArg₂ (· + ·) (congrArg₂ (· * ·) r3 r0) (congrArg₂ (· * ·) r4 r1)) (congrArg₂ (· * ·) r5 r2)

/-- The other blocks are the whole of their arrays. -/
theorem whole_eq (c : Dev nD) (t : Fin cfg0.N) : iblk m c 6 t = V m c main_arg6 ∧ iblk m c 7 t = V m c main_arg7 := by
  obtain ⟨e0, e1, e2, e3, e4, e5, e6, e7⟩ := idx_in t
  constructor
  · blk_ext! [iblk, e6]
  · blk_ext! [iblk, e7]

/-! ### The sums -/

theorem colSums_step (c : Dev nD) (j : Fin 4096) (n : ℕ) (h : n < 16) :
    colSums m c n h (ix2 0 j) = ∑ p : Fin (n + 1), ∑ r : Fin 256,
      k0_pay3 (iblk m c 3 (pt p.val (by omega))) (iblk m c 0 (pt p.val (by omega))) (iblk m c 4 (pt p.val (by omega))) (iblk m c 1 (pt p.val (by omega)))
        (iblk m c 5 (pt p.val (by omega))) (iblk m c 2 (pt p.val (by omega))) (ix2 r j) := by
  induction n with
  | zero =>
    refine (k0_pay7_apply _ _ _ _ _ _ _ j).trans ?_
    rw [k0_pay6_apply, zero_add, Fin.sum_univ_one]
    rfl
  | succ n ih =>
    refine (k0_pay7_apply _ _ _ _ _ _ _ j).trans ?_
    rw [ih]
    symm
    exact Fin.sum_univ_castSucc _

/-- After the last point: the column sums of the weighted sum. -/
theorem colSums_last (c : Dev nD) (j : Fin 4096) : colSums m c 15 (by decide) (ix2 0 j) = ∑ r, wadj m c r j :=
  (colSums_step m c j 15 (by decide)).trans
    (Fin.sum_mul_add_congr (fun t r hl => block_eq m c (pt t.val t.isLt) r ⟨_, hl⟩ j rfl) (by decide))

theorem rowSums_eq (c : Dev nD) (r : Fin 4096) : rowSums m c (ix2 r 0) = ∑ j, wadj m c r j := by
  have hr := r.isLt
  have key : ∀ (t : Fin cfg0.N) (y : S256x1.Idx), (r : ℕ) = t.val * 256 + (y 0).val → rowsAt m c t y = ∑ j, wadj m c r j := fun t y h => by
    have hy : y = ix2 (y 0) 0 := by blk_ext
    refine (congrArg (rowsAt m c t) hy).trans ((k0_pay5_apply _ _ _ _ _ _ (y 0)).trans (Finset.sum_congr rfl fun j _ => ?_))
    exact block_eq m c t (y 0) r j h
  exact key _ _ (show (r : ℕ) = (r : ℕ) / 256 * 256 + (r : ℕ) % 256 by omega)

theorem rootsEnd_eq (c : Dev nD) (r : Fin 4096) : rootsEnd m c (ix2 r 0) = roots (wadj m c) r := by
  unfold rootsEnd roots
  rw [k0_pay1_apply, colSums_last, rowSums_eq]

theorem prodEnd_eq (c : Dev nD) (r : Fin 4096) (j : Fin 128) :
    prodEnd m c (ix2 r j) = rootsMul (wadj m c) (mat (φ := .f32) (V m c main_arg6)) (mat (φ := .f32) (V m c main_arg7)) r j := by
  obtain ⟨w6, w7⟩ := whole_eq m c (pt 15 (by decide))
  unfold prodEnd rootsMul
  rw [w6, w7]
  exact (k0_pay2_apply _ _ _ _ r j).trans (congrArg (· * _) (rootsEnd_eq m c r))

/-! ### The results -/

variable {r : PUnit × MemSt nD τ sig (Elt Ideal)} (h : Pipeline.RDat.FramePost cfg0 (rdat m) (V m) r) (c : Dev nD)
include h

/-- The narrowed weighted sum. -/
theorem res_adj : r.2.mem ((c.tc : Thread nD τ).loc main_v0_0) = fun i => wadj m c (i 0) (i 1) := by
  obtain ⟨after, hL, hA⟩ := Pipeline.RDat.FramePost.exists_exact h c
  refine (hA 8).trans (Pipeline.Dat.arrAt_eq_of_covers _ 8 _ (by decide +kernel) fun t hf y => ?_)
  have e : after 8 t = blockAt m c t := (dat m c).toRRel_leaves (w := 8) rfl (hL 8 t hf)
  obtain ⟨e8, e9, e10, e11, e12⟩ := idx_out t
  blk_simp
  rw [Pipeline.RDat.withAfter_after, e]
  generalize hi : ((View.whole main_v0_0).slice (win0_8.rect t)).emb y = i
  have h0 : (i 0 : ℕ) = t.val * 256 + (y 0 : ℕ) := by subst hi; blk_simp [e8]
  have h1 : i 1 = y 1 := by subst hi; apply Fin.ext; blk_simp [e8]
  refine (congrArg (blockAt m c t) (eq_ix2 y)).trans ((k0_pay4_apply _ _ _ _ _ _ (y 0) (y 1)).trans ?_)
  exact (block_eq m c t (y 0) (i 0) (y 1) h0).trans (congrArg (wadj m c (i 0)) h1.symm)

/-- The column sums. -/
theorem res_cols : r.2.mem ((c.tc : Thread nD τ).loc main_v0_1) = fun i => ∑ p, wadj m c p (i 1) := by
  obtain ⟨after, hL, hA⟩ := Pipeline.RDat.FramePost.exists_exact h c
  refine (hA 9).trans (Pipeline.Dat.arrAt_eq_of_covers _ 9 _ (by decide +kernel) fun t hf y => ?_)
  have ht : t = pt 15 (by decide) := Fin.ext (by have := (flush0_9 t).mp hf; have := Nat.lt_of_lt_of_eq t.isLt N_0; simp only; omega)
  have e : after 9 t = colSums m c t.val (Nat.lt_of_lt_of_eq t.isLt N_0) := (dat m c).toRRel_leaves (w := 9) rfl (hL 9 t hf)
  obtain ⟨e8, e9, e10, e11, e12⟩ := idx_out t
  blk_simp
  rw [Pipeline.RDat.withAfter_after, e]
  generalize hi : ((View.whole main_v0_1).slice (win0_9.rect t)).emb y = i
  have h1 : i 1 = y 1 := by subst hi; apply Fin.ext; blk_simp [e9]
  subst ht
  have hy : y = ix2 0 (y 1) := by blk_ext
  exact (congrArg (colSums m c 15 _) hy).trans ((colSums_last m c (y 1)).trans (congrArg (fun j => ∑ p, wadj m c p j) h1.symm))

/-- The row sums. -/
theorem res_rows : r.2.mem ((c.tc : Thread nD τ).loc main_v0_2) = fun i => ∑ j, wadj m c (i 0) j := by
  obtain ⟨after, hL, hA⟩ := Pipeline.RDat.FramePost.exists_exact h c
  refine (hA 10).trans (Pipeline.Dat.arrAt_eq_of_covers _ 10 _ (by decide +kernel) fun t hf y => ?_)
  have ht : t.val = 15 := by have := (flush0_10 t).mp hf; have := Nat.lt_of_lt_of_eq t.isLt N_0; omega
  have e : ∀ y : S4096x1.Idx, (y 0).val < 256 * (t.val + 1) → after 10 t y = rowSums m c y := (dat m c).toRRel_leaves (w := 10) rfl (hL 10 t hf)
  obtain ⟨e8, e9, e10, e11, e12⟩ := idx_out t
  blk_simp
  rw [Pipeline.RDat.withAfter_after]
  generalize hi : ((View.whole main_v0_2).slice (win0_10.rect t)).emb y = i
  have h0 : i 0 = y 0 := by subst hi; apply Fin.ext; blk_simp [e10]
  have hy : y = ix2 (y 0) 0 := by blk_ext
  refine (e y (by have : (y 0).val < 4096 := (y 0).isLt; omega)).trans ((congrArg (rowSums m c) hy).trans ((rowSums_eq m c (y 0)).trans ?_))
  exact congrArg (fun p => ∑ j, wadj m c p j) h0.symm

/-- The scaled product. -/
theorem res_prod : r.2.mem ((c.tc : Thread nD τ).loc main_v0_3) =
    fun i => rootsMul (wadj m c) (mat (φ := .f32) (V m c main_arg6)) (mat (φ := .f32) (V m c main_arg7)) (i 0) (i 1) := by
  obtain ⟨after, hL, hA⟩ := Pipeline.RDat.FramePost.exists_exact h c
  refine (hA 11).trans (Pipeline.Dat.arrAt_eq_of_covers _ 11 _ (by decide +kernel) fun t hf y => ?_)
  have ht : t.val = 15 := by have := (flush0_11 t).mp hf; have := Nat.lt_of_lt_of_eq t.isLt N_0; omega
  have e : t.val = 15 → after 11 t = prodEnd m c := (dat m c).toRRel_leaves (w := 11) rfl (hL 11 t hf)
  obtain ⟨e8, e9, e10, e11, e12⟩ := idx_out t
  blk_simp
  rw [Pipeline.RDat.withAfter_after, e ht]
  generalize hi : ((View.whole main_v0_3).slice (win0_11.rect t)).emb y = i
  have h0 : i 0 = y 0 := by subst hi; apply Fin.ext; blk_simp [e11]
  have h1 : i 1 = y 1 := by subst hi; apply Fin.ext; blk_simp [e11]
  refine (congrArg (prodEnd m c) (eq_ix2 y)).trans ((prodEnd_eq m c (y 0) (y 1)).trans ?_)
  exact congrArg₂ (fun p q => rootsMul (wadj m c) (mat (φ := .f32) (V m c main_arg6)) (mat (φ := .f32) (V m c main_arg7)) p q) h0.symm h1.symm

/-- The inverse roots of the degrees. -/
theorem res_roots : r.2.mem ((c.tc : Thread nD τ).loc main_v0_4) = fun i => roots (wadj m c) (i 0) := by
  obtain ⟨after, hL, hA⟩ := Pipeline.RDat.FramePost.exists_exact h c
  refine (hA 12).trans (Pipeline.Dat.arrAt_eq_of_covers _ 12 _ (by decide +kernel) fun t hf y => ?_)
  have ht : t.val = 15 := by have := (flush0_12 t).mp hf; have := Nat.lt_of_lt_of_eq t.isLt N_0; omega
  have e : t.val = 15 → after 12 t = rootsEnd m c := (dat m c).toRRel_leaves (w := 12) rfl (hL 12 t hf)
  obtain ⟨e8, e9, e10, e11, e12⟩ := idx_out t
  blk_simp
  rw [Pipeline.RDat.withAfter_after, e ht]
  generalize hi : ((View.whole main_v0_4).slice (win0_12.rect t)).emb y = i
  have h0 : i 0 = y 0 := by subst hi; apply Fin.ext; blk_simp [e12]
  have hy : y = ix2 (y 0) 0 := by blk_ext
  exact (congrArg (rootsEnd m c) hy).trans ((rootsEnd_eq m c (y 0)).trans (congrArg (roots (wadj m c)) h0.symm))

end Cert.WadjSide

end
-- ==== Proof.WadjBits.lean ====
/-
  The kernel call that weights the three adjacencies, as printed and as read on the extended reals, is one program: no
  operation was rewritten. So what is proved of it for any floats holds of it as printed.
-/
module

public import proofs.«01_k».proof.Proof.WadjRun
public import proofs.«01_k».proof.Proof.Gen.Kernel3

@[expose] public section

set_option maxRecDepth 16384

namespace Cert.WadjSide

open Idealize.ShloMosaic Idealize.SL.Sem

variable {F : FTy → Type} [FloatOps F]

theorem defs₀_same : @Cert.Kernel3.defs₀ F _ Cert.Kernel3.Gen.facts = @Cert.Kernel3Ideal.defs₀ F _ Cert.Kernel3Ideal.Gen.facts := by
  unfold Cert.Kernel3.defs₀ Cert.Kernel3Ideal.defs₀
  refine congrArg Defs.onTc (funext fun l => funext fun x => ?_)
  obtain ⟨l, hl⟩ := l
  cases l with
  | zero =>
    obtain ⟨t, s⟩ : Fin Cert.Kernel3.grid0.N × ((w : Fin 13) → Fin (Cert.Kernel3.win0 w).nbuf) := x
    rfl
  | succ l => exact absurd hl (Nat.not_lt.2 (Nat.le_add_left _ _))

theorem defs_same : @Cert.Kernel3.defs F _ Cert.Kernel3.Gen.facts = @Cert.Kernel3Ideal.defs F _ Cert.Kernel3Ideal.Gen.facts := by
  unfold Cert.Kernel3.defs Cert.Kernel3Ideal.defs
  exact congrArg (Pipeline.defs _) defs₀_same

end Cert.WadjSide
-- ==== Proof.WadjEqual.lean ====
/-
  The claims of the kernel call that weights the three adjacencies: its frames, its reference's end, and on the same
  arguments the five results are the same arrays.
-/
module

public import proofs.«01_k».proof.Defs
public import proofs.«01_k».proof.Proof.WadjEnd
public import proofs.«01_k».proof.Proof.WadjBits
public import proofs.«01_k».proof.Proof.Gen.Reference3Ideal

@[expose] public section

set_option maxRecDepth 16384

noncomputable section

namespace Cert.WadjSide

open Cert.Spec Idealize.ShloMosaic Idealize.ShloMosaic.TcCoe Idealize.SL.Sem

section
open Cert.Kernel3Ideal Cert.Kernel3Ideal.Gen Cert.Kernel3Ideal.Hand
variable {F : FTy → Type} [FloatOps F] {m : (ℓ : Loc nD τ sig) → Buf (Elt F) ℓ} {r : PUnit × MemSt nD τ sig (Elt F)}

/-- The arguments end as they began. -/
theorem args_kept (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  have k : ∀ w, (cfg0.win w).isOut = false → r.2.mem ((cfg0.spec w).arr.view.loc (c.tc : Thread nD τ)) = V m c (Pipeline.arrRef spec0 w) :=
    fun w hw => (Pipeline.RDat.FramePost.arr_in h c w hw).trans (A_eq m c w)
  ⟨k 0 rfl, k 1 rfl, k 2 rfl, k 3 rfl, k 4 rfl, k 5 rfl, k 6 rfl, k 7 rfl⟩

theorem frame_of (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 :=
  (θ_run _ _ _).mono (fun r h => ⟨args_kept h.1, h.2⟩) (run m ρ)

end

theorem frame_ideal : Cert.quiescent_Kernel3Ideal := fun m ρ _ => frame_of m ρ

/-- The kernel as printed is the same program, whatever the floats are. -/
theorem frame_bits : Cert.quiescent_Kernel3 := fun m ρ _ =>
  (congrArg (fun D => θ_run D (onTc (τ := Kernel3Ideal.τ) (Kernel3Ideal.main (F := Bits))) ⟨m, fun _ => 0, ρ⟩ _) defs_same).mpr (frame_of (F := Bits) m ρ)

/-- The reference's run ends and leaves its arguments. -/
theorem frame_ref : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

section
open Cert.Reference3Ideal Cert.Reference3Ideal.Gen Cert.WadjRef
variable (m' : (ℓ : Loc nD τ sig) → Buf (Elt Ideal) ℓ) (ρ' : Dev nD → PrngReg)

set_option maxHeartbeats 4000000 in
/-- The reference's five results, by their steps. -/
theorem ref_run : θ_run (defs (F := Ideal)) (onTc (τ := τ) (main (F := Ideal))) ⟨m', fun _ => 0, ρ'⟩ fun r => ∀ c : Dev nD,
    (r.2.mem ((c.tc : Thread nD τ).loc main_v28) = truncf .bf16 (sumOf m' c) bitsLt_bf16_f32
      ∧ r.2.mem ((c.tc : Thread nD τ).loc main_v29) = colsV (sumOf m' c)
      ∧ r.2.mem ((c.tc : Thread nD τ).loc main_v30) = rowsV (sumOf m' c)
      ∧ r.2.mem ((c.tc : Thread nD τ).loc main_v31) = prodV (rootsV (sumOf m' c)) (m' ((c.tc : Thread nD τ).loc main_arg6)) (m' ((c.tc : Thread nD τ).loc main_arg7))
      ∧ r.2.mem ((c.tc : Thread nD τ).loc main_v32) = rootsCol (sumOf m' c))
    ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7) :=
  (θ_run _ _ _).mono (fun r h c => ⟨⟨(h c).1, (h c).2.1, (h c).2.2.1, (h c).2.2.2.1, (h c).2.2.2.2.1⟩, (h c).2.2.2.2.2⟩)
    (Cert.Reference3Ideal.Value.run (F := Ideal) m' ρ')

end

open Cert.WadjRef in
/-- The reference's weighted sum of the same arguments. -/
theorem sum_same (m : (ℓ : Loc Kernel3Ideal.nD Kernel3Ideal.τ Kernel3Ideal.sig) → Buf (Elt Ideal) ℓ) (c : Dev Kernel3Ideal.nD) :
    mat (φ := .f32) (sumV (m ((c.tc : Thread _ _).loc Kernel3Ideal.main_arg0)) (m ((c.tc : Thread _ _).loc Kernel3Ideal.main_arg1)) (m ((c.tc : Thread _ _).loc Kernel3Ideal.main_arg2))
      (m ((c.tc : Thread _ _).loc Kernel3Ideal.main_arg3)) (m ((c.tc : Thread _ _).loc Kernel3Ideal.main_arg4)) (m ((c.tc : Thread _ _).loc Kernel3Ideal.main_arg5))) = wadj m c :=
  funext fun r => funext fun j => sumV_apply _ _ _ _ _ _ r j

/-- The five results are the same arrays. -/
theorem algebraic : Cert.algebraic_Kernel3Ideal_Reference3Ideal := fun m ρ m' ρ' _ hag =>
  ⟨fun c i => wadj m c (i 0) (i 1), fun c => (fun i => ∑ p, wadj m c p (i 1) : FVec Ideal Kernel3Ideal.S1x4096 .f32),
    fun c => (fun i => ∑ j, wadj m c (i 0) j : FVec Ideal Kernel3Ideal.S4096x1 .f32),
    fun c i => rootsMul (wadj m c) (mat (φ := .f32) (Kernel3Ideal.Gen.V m c Kernel3Ideal.main_arg6)) (mat (φ := .f32) (Kernel3Ideal.Gen.V m c Kernel3Ideal.main_arg7)) (i 0) (i 1),
    fun c i => roots (wadj m c) (i 0),
    (θ_run Kernel3Ideal.defs _ _).mono (fun r h c => ⟨res_adj m h.1 c, res_cols m h.1 c, res_rows m h.1 c, res_prod m h.1 c, res_roots m h.1 c, args_kept h.1 c⟩)
      (Kernel3Ideal.Hand.run m ρ),
    (θ_run Reference3Ideal.defs _ _).mono (fun r h c => by
      obtain ⟨⟨q0, q1, q2, q3, q4⟩, hk⟩ := h c
      obtain ⟨e0, e1, e2, e3, e4, e5, e6, e7⟩ := hag c
      unfold WadjRef.sumOf at q0 q1 q2 q3 q4
      rw [e0, e1, e2, e3, e4, e5] at q0 q1 q2 q3 q4
      rw [e6, e7] at q3
      have hs := sum_same m c
      exact ⟨q0.trans (WadjRef.narrow_eq hs), q1.trans (WadjRef.colsV_eq hs), q2.trans (WadjRef.rowsV_eq hs), q3.trans (WadjRef.prodV_eq hs _ _),
        q4.trans (WadjRef.rootsCol_eq hs), hk⟩) (ref_run m' ρ')⟩

end Cert.WadjSide

end
-- ==== Proof.lean ====
/-
  The proof of the claim: the frames of the programs, the idealizations of the kernels, and the equations between each
  ideal kernel and its ideal reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Pre_weights
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.KernelRun
public import proofs.«01_k».proof.Proof.Equal
public import proofs.«01_k».proof.Proof.DecoderEqual
public import proofs.«01_k».proof.Proof.WadjEqual
public import Idealize.ShloMosaic.Adequacy
public import Idealize.ShloMosaic.Init

@[expose] public section

set_option maxRecDepth 16384

noncomputable section

namespace Cert.Proof

open Idealize.ShloMosaic Idealize.SL.Sem Cert.Kernel

/-- All claims: the frames, the idealizations, and the equations of the results. -/
theorem claim : Cert.Claim := ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Pre_weights.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2, sem_eq_zero_of_no_sems (by decide) r.2⟩) (Cert.ReferenceIdeal.Value.run (F := Ideal) m ρ),
  fun m ρ _ => Cert.Kernel2.Gen.frame m ρ,
  fun m ρ _ => Cert.Kernel2Ideal.Gen.frame m ρ,
  fun m ρ _ => Cert.Kernel2Ideal.Gen.frame m ρ,
  Cert.DecoderSide.frame_ref,
  fun m ρ _ => Cert.DecoderSide.frame_ref m ρ (by trivial),
  Cert.WadjSide.frame_bits,
  Cert.WadjSide.frame_ideal,
  Cert.WadjSide.frame_ref,
  trivial,
  fun m ρ m' ρ' _ hag =>
    ⟨fun c => Cert.KernelIdeal.Gen.W10 m ρ c (Proc.devRef .tc Cert.KernelIdeal.main_v21_2),
      fun c => Cert.KernelIdeal.Gen.W10 m ρ c (Proc.devRef .tc Cert.KernelIdeal.main_v22),
      Cert.KernelSide.run_values m ρ,
      (θ_run Cert.ReferenceIdeal.defs _ _).mono
        (fun r h c => ⟨(h c).1.trans (Cert.KernelSide.equal_1 m ρ m' c (hag c)),
          (h c).2.1.trans (Cert.KernelSide.equal_3 m ρ m' c (hag c)), (h c).2.2⟩)
        (Cert.ReferenceIdeal.Value.run (F := Ideal) m' ρ')⟩,
  Cert.DecoderSide.preserves,
  Cert.DecoderSide.algebraic,
  trivial,
  Cert.WadjSide.algebraic⟩

end Cert.Proof

end
